-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![32, 128, 256]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x32 : Shape := ⟨2, ![128, 32]⟩
abbrev S256x1 : Shape := ⟨2, ![256, 1]⟩
abbrev S2x128x256 : Shape := ⟨3, ![2, 128, 256]⟩
abbrev S256x256 : Shape := ⟨2, ![256, 256]⟩
abbrev S4x256x128 : Shape := ⟨3, ![4, 256, 128]⟩
abbrev S4 : Shape := ⟨1, ![4]⟩
abbrev S_ : Shape := ⟨0, ![]⟩
abbrev S1x128x256 : Shape := ⟨3, ![1, 128, 256]⟩
abbrev S128x256 : Shape := ⟨2, ![128, 256]⟩
abbrev S1 : Shape := ⟨1, ![1]⟩
abbrev S1x256x128 : Shape := ⟨3, ![1, 256, 128]⟩

abbrev nBuf : Space → Nat
  | .hbm => 5
  | .vmem => 6
  | .smem => 0
  | _ => 0

abbrev bufTy : (tb : Table) → Fin (tcTables nBuf tb) → BufTy
  | .hbm, ⟨0, _⟩ => ⟨S256x128, .f32⟩
  | .hbm, ⟨1, _⟩ => ⟨S128x32, .f32⟩
  | .hbm, ⟨2, _⟩ => ⟨S256x1, .i32⟩
  | .hbm, ⟨3, _⟩ => ⟨S2x128x256, .f32⟩
  | .hbm, ⟨4, _⟩ => ⟨S256x256, .f32⟩
  | .local _ .vmem, ⟨0, _⟩ => ⟨S256x128, .f32⟩
  | .local _ .vmem, ⟨1, _⟩ => ⟨S256x1, .i32⟩
  | .local _ .vmem, ⟨2, _⟩ => ⟨S2x128x256, .f32⟩
  | .local _ .vmem, ⟨3, _⟩ => ⟨S256x256, .f32⟩
  | .local _ .vmem, ⟨4, _⟩ => ⟨S4x256x128, .f32⟩
  | .local _ .vmem, ⟨5, _⟩ => ⟨S4x256x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_2 : BitVec 32 := 1#32
  let v8 : BitVec 32 := Scalar.muli v3 c1_i32_2
  let v9 : BitVec 32 := Scalar.addi c0_i32 v8
  v9.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_4 : BitVec 32 := 1#32
  let v10 : BitVec 32 := Scalar.muli v4 c1_i32_4
  let v11 : BitVec 32 := Scalar.addi c0_i32_5 v10
  v11.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_7 : BitVec 32 := 1#32
  let v12 : BitVec 32 := Scalar.muli v5 c1_i32_7
  let v13 : BitVec 32 := Scalar.addi c0_i32_8 v12
  v13.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_10 : BitVec 32 := 1#32
  let v14 : BitVec 32 := Scalar.muli v6 c1_i32_10
  let v15 : BitVec 32 := Scalar.addi c0_i32_11 v14
  v15.toNat
def k0_dev5 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_33 : BitVec 32 := 1#32
  let v48 : BitVec 32 := Scalar.muli v3 c1_i32_33
  let v49 : BitVec 32 := Scalar.addi c0_i32_34 v48
  v49.toNat
def k0_dev6 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_42 : BitVec 32 := 1#32
  let v57 : BitVec 32 := Scalar.muli v6 c1_i32_42
  let v58 : BitVec 32 := Scalar.addi c0_i32_43 v57
  v58.toNat
def k0_dev7 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_97 : BitVec 32 := 1#32
  let v102 : BitVec 32 := Scalar.muli v4 c1_i32_97
  let v103 : BitVec 32 := Scalar.addi c0_i32_98 v102
  v103.toNat
def k0_dev8 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_106 : BitVec 32 := 1#32
  let v111 : BitVec 32 := Scalar.muli v5 c1_i32_106
  let v112 : BitVec 32 := Scalar.addi c0_i32_107 v111
  v112.toNat
def k0_dev9 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_163 : BitVec 32 := 1#32
  let v156 : BitVec 32 := Scalar.muli v5 c1_i32_163
  let v157 : BitVec 32 := Scalar.addi c0_i32_164 v156
  v157.toNat
def k0_dev10 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_172 : BitVec 32 := 1#32
  let v165 : BitVec 32 := Scalar.muli v4 c1_i32_172
  let v166 : BitVec 32 := Scalar.addi c0_i32_173 v165
  v166.toNat
def k0_dev11 (d0 : Dev nD) : Nat :=
  let c0_i32_229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_228 : BitVec 32 := 1#32
  let v210 : BitVec 32 := Scalar.muli v6 c1_i32_228
  let v211 : BitVec 32 := Scalar.addi c0_i32_229 v210
  v211.toNat
def k0_dev12 (d0 : Dev nD) : Nat :=
  let c0_i32_238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_237 : BitVec 32 := 1#32
  let v219 : BitVec 32 := Scalar.muli v3 c1_i32_237
  let v220 : BitVec 32 := Scalar.addi c0_i32_238 v219
  v220.toNat
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x128 : Shape := ⟨2, ![256, 128]⟩
abbrev S128x32 : Shape := ⟨2, ![128, 32]⟩
abbrev S256x1 : Shape := ⟨2, ![256, 1]⟩
abbrev S32x128x256 : Shape := ⟨3, ![32, 128, 256]⟩
abbrev S256 : Shape := ⟨1, ![256]⟩
abbrev S1 : Shape := ⟨1, ![1]⟩
abbrev S_ : Shape := ⟨0, ![]⟩
abbrev S1x1 : Shape := ⟨2, ![1, 1]⟩
abbrev S256x128x256 : Shape := ⟨3, ![256, 128, 256]⟩
abbrev S256x256 : Shape := ⟨2, ![256, 256]⟩

abbrev nBuf : Space → Nat
  | .hbm => 22
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S128x32, .f32⟩
  | .hbm, ⟨2, _⟩ => ⟨S256x1, .i32⟩
  | .hbm, ⟨3, _⟩ => ⟨S32x128x256, .f32⟩
  | .hbm, ⟨4, _⟩ => ⟨S256, .i32⟩
  | .hbm, ⟨5, _⟩ => ⟨S256x1, .i32⟩
  | .hbm, ⟨6, _⟩ => ⟨S1, .i32⟩
  | .hbm, ⟨7, _⟩ => ⟨S_, .i32⟩
  | .hbm, ⟨8, _⟩ => ⟨S256x1, .i32⟩
  | .hbm, ⟨9, _⟩ => ⟨S256x1, .i1⟩
  | .hbm, ⟨10, _⟩ => ⟨S1x1, .i32⟩
  | .hbm, ⟨11, _⟩ => ⟨S256x1, .i32⟩
  | .hbm, ⟨12, _⟩ => ⟨S256x1, .i1⟩
  | .hbm, ⟨13, _⟩ => ⟨S256x1, .i1⟩
  | .hbm, ⟨14, _⟩ => ⟨S_, .i1⟩
  | .hbm, ⟨15, _⟩ => ⟨S256, .i1⟩
  | .hbm, ⟨16, _⟩ => ⟨S256x128x256, .f32⟩
  | .hbm, ⟨17, _⟩ => ⟨S256x128x256, .i1⟩
  | .hbm, ⟨18, _⟩ => ⟨S_, .f32⟩
  | .hbm, ⟨19, _⟩ => ⟨S256x128x256, .f32⟩
  | .hbm, ⟨20, _⟩ => ⟨S256x128x256, .f32⟩
  | .hbm, ⟨21, _⟩ => ⟨S256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Proof.Mesh.lean ====
/-
# The sixteen devices and whom each of them talks to

The kernel sums one block over sixteen devices by a butterfly: in every round a device swaps a half of its block with the
device whose number differs from its own in a fixed bit pattern. Here are the patterns, the partner of a device, and that the
kernel's own integer arithmetic names exactly those partners.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.Butterfly

open Cert.KernelIdeal Cert.KernelIdeal.Gen
open Idealize.ShloMosaic Idealize.ShloMosaic.TcCoe

/-- The bit pattern of step `k` of the schedule: 1, 3, 4, 8. -/
def sch : ℕ → Fin 16
  | 0 => 1
  | 1 => 3
  | 2 => 4
  | _ => 8

/-- The bit pattern of transfer `i`. The eight transfers of a device are numbered in program order: `2 r` is the left half's in
    round `r` and follows the schedule forwards, `2 r + 1` the right half's and follows it backwards. -/
def mask (i : ℕ) : Fin 16 := if i % 2 = 0 then sch (i / 2) else sch (3 - i / 2)

set_option backward.proofsInPublic true in
/-- The device whose number is `c`'s with the bits of `p` flipped. -/
def flip (p : Fin 16) (c : Dev nD) : Dev nD := ⟨c.val ^^^ p.val, Nat.xor_lt_two_pow (n := 4) c.isLt p.isLt⟩

/-- Flipping the same bits twice changes nothing. -/
theorem flip_flip (p : Fin 16) (c : Dev nD) : flip p (flip p c) = c := by
  apply Fin.ext
  show (c.val ^^^ p.val) ^^^ p.val = c.val
  rw [Nat.xor_assoc, Nat.xor_self, Nat.xor_zero]

/-- Flipping is a permutation of the devices. -/
def flipEquiv (p : Fin 16) : Dev nD ≃ Dev nD := ⟨flip p, flip p, flip_flip p, flip_flip p⟩

/-- The device that device `c` signals at step `k` of the entry handshake. -/
abbrev hail (k : ℕ) (c : Dev nD) : Dev nD := flip (sch k) c

/-- The device that device `c` sends its transfer `i` to, and whose transfer `i` it receives. -/
abbrev mate (i : ℕ) (c : Dev nD) : Dev nD := flip (mask i) c

/-- Transfers `2 k` and `7 - 2 k` go to the device hailed at step `k`. -/
theorem mate_even (k : ℕ) (hk : k < 4) (c : Dev nD) : mate (2 * k) c = hail k c := by
  unfold mate hail mask
  rw [if_pos (by omega), show 2 * k / 2 = k by omega]

theorem mate_odd (k : ℕ) (hk : k < 4) (c : Dev nD) : mate (7 - 2 * k) c = hail k c := by
  unfold mate hail mask
  rw [if_neg (by omega), show 3 - (7 - 2 * k) / 2 = k by omega]

/-! The kernel's chains of integer operations name these devices: four for the handshake, eight for the transfers. -/

theorem dev1 : ∀ c : Dev nD, (⟨k0_dev1 c, k0_dev1_lt c⟩ : Dev nD) = hail 0 c := by decide +kernel
theorem dev2 : ∀ c : Dev nD, (⟨k0_dev2 c, k0_dev2_lt c⟩ : Dev nD) = hail 1 c := by decide +kernel
theorem dev3 : ∀ c : Dev nD, (⟨k0_dev3 c, k0_dev3_lt c⟩ : Dev nD) = hail 2 c := by decide +kernel
theorem dev4 : ∀ c : Dev nD, (⟨k0_dev4 c, k0_dev4_lt c⟩ : Dev nD) = hail 3 c := by decide +kernel
theorem dev5 : ∀ c : Dev nD, (⟨k0_dev5 c, k0_dev5_lt c⟩ : Dev nD) = mate 0 c := by decide +kernel
theorem dev6 : ∀ c : Dev nD, (⟨k0_dev6 c, k0_dev6_lt c⟩ : Dev nD) = mate 1 c := by decide +kernel
theorem dev7 : ∀ c : Dev nD, (⟨k0_dev7 c, k0_dev7_lt c⟩ : Dev nD) = mate 2 c := by decide +kernel
theorem dev8 : ∀ c : Dev nD, (⟨k0_dev8 c, k0_dev8_lt c⟩ : Dev nD) = mate 3 c := by decide +kernel
theorem dev9 : ∀ c : Dev nD, (⟨k0_dev9 c, k0_dev9_lt c⟩ : Dev nD) = mate 4 c := by decide +kernel
theorem dev10 : ∀ c : Dev nD, (⟨k0_dev10 c, k0_dev10_lt c⟩ : Dev nD) = mate 5 c := by decide +kernel
theorem dev11 : ∀ c : Dev nD, (⟨k0_dev11 c, k0_dev11_lt c⟩ : Dev nD) = mate 6 c := by decide +kernel
theorem dev12 : ∀ c : Dev nD, (⟨k0_dev12 c, k0_dev12_lt c⟩ : Dev nD) = mate 7 c := by decide +kernel

end Cert.Butterfly

end
-- ==== Proof.Views.lean ====
/-
# The pieces of the buffers that travel

A transfer carries one column half of the output block into one slot of a receive buffer. Here are those views, the semaphores
beside them, and how a whole buffer is the conjunction of its halves or slots.
-/
module

public import proofs.«01_k».proof.Proof.Mesh

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's rounds and the handshake's (duties named by `Fin 4`) -/

abbrev UU : Type := UR sig nD τ × URounds (GSem nD τ sig) (Fin 4)

local notation "𝕄" => MT nD τ sig Unit (Elt F) ℕ UU ℕ

/-! ## The halves of the output block -/

/-- The output's staging buffer. -/
abbrev outM : Memref sig .tc .vmem S256x256 .f32 := Memref.whole cc0_stg3_0

theorem halfInb (h : Fin 2) : ∀ a, (![0, 128 * h.val] : Fin 2 → Nat) a + S256x128.size a ≤ S256x256.size a := by
  revert h; decide

/-- Column half `h` of a 256 × 256 block. -/
abbrev halfR (h : Fin 2) : Rect S256x256 := Rect.unit (s := S256x256) ![0, 128 * h.val] S256x128.size (halfInb h)

/-- Column half `h` of the output block, as a transfer names it. -/
abbrev halfM (h : Fin 2) : Memref sig .tc .vmem S256x128 .f32 := outM.slice (halfR h) (fun _ => rfl)

theorem halfR_disj (h h' : Fin 2) (hne : h ≠ h') : Disjoint (halfR h).set (halfR h').set := by
  refine Finset.disjoint_left.mpr fun i hi hi' => hne ?_
  have h1 := (Rect.mem_set_unit.mp hi) (1 : Fin 2)
  have h2 := (Rect.mem_set_unit.mp hi') (1 : Fin 2)
  apply Fin.ext
  simp at h1 h2
  omega

theorem halfR_cover : (Finset.univ : Finset (Fin 2)).biUnion (fun h => (halfR h).set) = Finset.univ := by
  refine Finset.eq_univ_of_forall fun i => Finset.mem_biUnion.mpr ?_
  have h0 : (i (0 : Fin 2)).val < 256 := (i (0 : Fin 2)).isLt
  have h1 : (i (1 : Fin 2)).val < 256 := (i (1 : Fin 2)).isLt
  refine ⟨⟨(i (1 : Fin 2)).val / 128, by omega⟩, Finset.mem_univ _, Rect.mem_set_unit.mpr fun a => ?_⟩
  fin_cases a <;> simp <;> omega

/-- A block whose two column halves are given. -/
def glue (X : Fin 2 → Vec F S256x128 .f32) : Vec F S256x256 .f32 := fun x =>
  X ⟨(x (1 : Fin 2)).val / 128, Nat.div_lt_of_lt_mul (x (1 : Fin 2)).isLt⟩
    (fun a => match a with
      | ⟨0, _⟩ => ⟨(x (0 : Fin 2)).val, (x (0 : Fin 2)).isLt⟩
      | ⟨1, _⟩ => ⟨(x (1 : Fin 2)).val % 128, Nat.mod_lt _ (by decide)⟩)

/-- Column half `h` of a block. -/
def half (h : Fin 2) (Y : Vec F S256x256 .f32) : Vec F S256x128 .f32 := fun y => Y ((halfR h).emb y)

/-- A half of a glued block is the half it was glued from. -/
theorem half_glue (X : Fin 2 → Vec F S256x128 .f32) (h : Fin 2) : half h (glue X) = X h := by
  funext y
  have h0 : (y (0 : Fin 2)).val < 256 := (y (0 : Fin 2)).isLt
  have h1 : (y (1 : Fin 2)).val < 128 := (y (1 : Fin 2)).isLt
  have e1 : (((halfR h).emb y) (1 : Fin 2)).val = 128 * h.val + 1 * (y (1 : Fin 2)).val := rfl
  have e0 : (((halfR h).emb y) (0 : Fin 2)).val = 0 + 1 * (y (0 : Fin 2)).val := rfl
  unfold half glue
  refine congrArg₂ X ?_ ?_
  · apply Fin.ext; show (((halfR h).emb y) (1 : Fin 2)).val / 128 = h.val; rw [e1]; omega
  · funext a
    apply Fin.ext
    fin_cases a
    · simp only [e0]; show _ = (y (0 : Fin 2)).val; omega
    · simp only [e1]; show _ = (y (1 : Fin 2)).val; omega

/-- The whole output block is its two halves, each at its part. -/
theorem out_split (c : Dev nD) (Y : Vec F S256x256 .f32) :
    ((((c.tc : Thread nD τ).loc cc0_stg3_0) ↦{fullShare} Y) : sProp 𝕄)
      ⊢ iprop(owns (c.tc : Thread nD τ) (halfM 0) fullShare (half 0 Y) ∗ owns (c.tc : Thread nD τ) (halfM 1) fullShare (half 1 Y)) := by
  rw [← owns_whole (c.tc : Thread nD τ) cc0_stg3_0 fullShare Y]
  refine (owns_rects (c.tc : Thread nD τ) outM fullShare halfR (fun _ _ => rfl) halfR_disj halfR_cover Y).trans ?_
  rw [BI.bigSep_univ_eq_bigSepL [(0 : Fin 2), 1] (by decide) (by decide), bigSepL_cons_cons, bigSepL_singleton]
  exact .rfl

/-- The two halves, each at its contents, are the whole block glued from them. -/
theorem out_join (c : Dev nD) (X : Fin 2 → Vec F S256x128 .f32) :
    iprop(owns (c.tc : Thread nD τ) (halfM 0) fullShare (X 0) ∗ owns (c.tc : Thread nD τ) (halfM 1) fullShare (X 1))
      ⊢ ((((c.tc : Thread nD τ).loc cc0_stg3_0) ↦{fullShare} glue X) : sProp 𝕄) := by
  rw [← owns_whole (c.tc : Thread nD τ) cc0_stg3_0 fullShare (glue X)]
  refine BIBase.Entails.trans ?_ (owns_of_rects (c.tc : Thread nD τ) outM fullShare halfR (fun _ _ => rfl) halfR_disj halfR_cover (glue X))
  rw [BI.bigSep_univ_eq_bigSepL [(0 : Fin 2), 1] (by decide) (by decide), bigSepL_cons_cons, bigSepL_singleton]
  conv_lhs => rw [← half_glue X 0, ← half_glue X 1]
  exact .rfl

/-! ## The slots of the receive buffers -/

theorem slotInb (r : Fin 4) : ∀ a, (![r.val, 0, 0] : Fin 3 → Nat) a + S1x256x128.size a ≤ S4x256x128.size a := by
  revert r; decide

/-- Slot `r` of a receive buffer, as a rectangle. -/
abbrev slotR (r : Fin 4) : Rect S4x256x128 := Rect.unit (s := S4x256x128) ![r.val, 0, 0] S1x256x128.size (slotInb r)

/-- Slot `r` of the receive buffer `M`, as a transfer names it. -/
abbrev slotOf (M : Memref sig .tc .vmem S4x256x128 .f32) (r : Fin 4) : Memref sig .tc .vmem S256x128 .f32 :=
  (M.slice (slotR r) (fun _ => rfl)).squeeze S256x128 squeezes_S1x256x128_S256x128

/-- The receive buffer of half `h`. -/
def recM : Fin 2 → Memref sig .tc .vmem S4x256x128 .f32
  | 0 => Memref.whole cc0_scratch0
  | 1 => Memref.whole cc0_scratch1

/-- The half transfer `i` carries. -/
abbrev hf (i : ℕ) : Fin 2 := ⟨i % 2, Nat.mod_lt _ (by decide)⟩

/-- The round of transfer `i < 8`. -/
abbrev rd (i : ℕ) : Fin 4 := ⟨i / 2 % 4, Nat.mod_lt _ (by decide)⟩

/-- The slot transfer `i` lands in. -/
abbrev slotM (i : ℕ) : Memref sig .tc .vmem S256x128 .f32 := slotOf (recM (hf i)) (rd i)

theorem slotR_disj (r r' : Fin 4) (hne : r ≠ r') : Disjoint (slotR r).set (slotR r').set := by
  refine Finset.disjoint_left.mpr fun i hi hi' => hne ?_
  have h1 := (Rect.mem_set_unit.mp hi) (0 : Fin 3)
  have h2 := (Rect.mem_set_unit.mp hi') (0 : Fin 3)
  apply Fin.ext
  simp at h1 h2
  omega

theorem slotR_cover : (Finset.univ : Finset (Fin 4)).biUnion (fun r => (slotR r).set) = Finset.univ := by
  refine Finset.eq_univ_of_forall fun i => Finset.mem_biUnion.mpr ?_
  refine ⟨i (0 : Fin 3), Finset.mem_univ _, Rect.mem_set_unit.mpr fun a => ?_⟩
  have h1 : (i (1 : Fin 3)).val < 256 := (i (1 : Fin 3)).isLt
  have h2 : (i (2 : Fin 3)).val < 128 := (i (2 : Fin 3)).isLt
  fin_cases a <;> simp
  · exact h1
  · exact h2

/-- A view held at some contents. -/
def held (c : Dev nD) {sh : Shape} (m : Memref sig .tc .vmem sh .f32) : sProp 𝕄 :=
  iprop(∃ X, owns (c.tc : Thread nD τ) m fullShare X)

theorem held_intro (c : Dev nD) {sh : Shape} (m : Memref sig .tc .vmem sh .f32) (X : Vec F sh .f32) :
    (owns (c.tc : Thread nD τ) m fullShare X : sProp 𝕄) ⊢ held c m := by
  unfold held; iintro H; iexists X; iexact H

instance held_storable (c : Dev nD) {sh : Shape} (m : Memref sig .tc .vmem sh .f32) :
    BI.Storable (upEmb : UEmb _ 𝕄) (held c m) := by
  unfold held; infer_instance

/-- Holding a slot as a rectangle of the buffer is holding it as a transfer names it. -/
theorem held_slot (c : Dev nD) (M : Memref sig .tc .vmem S4x256x128 .f32) (r : Fin 4) :
    (held c (M.slice (slotR r) (fun _ => rfl)) : sProp 𝕄) = held c (slotOf M r) := by
  have hs : (slotOf M r).view.set = (M.slice (slotR r) (fun _ => rfl)).view.set := View.set_reshape _ _
  have h₁ : (held c (M.slice (slotR r) (fun _ => rfl)) : sProp 𝕄) ⊢ held c (slotOf M r) := by
    unfold held owns
    iintro ⟨%X, %f, %hf, H⟩
    iexists (slotOf M r).view.read (Elt F) f, f
    isplitr; · ipureintro; rfl
    rw [hs]; iexact H
  have h₂ : (held c (slotOf M r) : sProp 𝕄) ⊢ held c (M.slice (slotR r) (fun _ => rfl)) := by
    unfold held owns
    iintro ⟨%X, %f, %hf, H⟩
    iexists (M.slice (slotR r) (fun _ => rfl)).view.read (Elt F) f, f
    isplitr; · ipureintro; rfl
    rw [hs]; iexact H
  exact BI.equiv_iff.mp ⟨h₁, h₂⟩

/-- A receive buffer held at some contents is its four slots held. -/
theorem rec_split (c : Dev nD) (M : Memref sig .tc .vmem S4x256x128 .f32) :
    (held c M : sProp 𝕄) ⊢ BI.bigSep Finset.univ fun r : Fin 4 => held c (slotOf M r) := by
  have h (X : Vec F S4x256x128 .f32) : (owns (c.tc : Thread nD τ) M fullShare X : sProp 𝕄)
      ⊢ BI.bigSep Finset.univ fun r : Fin 4 => held c (slotOf M r) := by
    refine (owns_rects (c.tc : Thread nD τ) M fullShare slotR (fun _ _ => rfl) slotR_disj slotR_cover X).trans ?_
    refine bigSep_mono fun r _ => ?_
    rw [← held_slot (F := F) c M r]
    exact held_intro c (M.slice (slotR r) (fun _ => rfl)) _
  conv_lhs => unfold held
  iintro ⟨%X, H⟩
  iapply (h X)
  iexact H

/-- The position inside its slot of a position of a receive buffer. -/
def inSlot (x : S4x256x128.Idx) : S1x256x128.Idx := fun a => match a with
  | ⟨0, _⟩ => ⟨0, Nat.one_pos⟩
  | ⟨1, _⟩ => ⟨(x (1 : Fin 3)).val, (x (1 : Fin 3)).isLt⟩
  | ⟨2, _⟩ => ⟨(x (2 : Fin 3)).val, (x (2 : Fin 3)).isLt⟩

theorem inSlot_emb (r : Fin 4) (j : S1x256x128.Idx) : inSlot ((slotR r).emb j) = j := by
  have j0 : (j (0 : Fin 3)).val < 1 := (j (0 : Fin 3)).isLt
  funext a
  apply Fin.ext
  fin_cases a
  · show 0 = (j (0 : Fin 3)).val; omega
  · show 0 + 1 * (j (1 : Fin 3)).val = (j (1 : Fin 3)).val; omega
  · show 0 + 1 * (j (2 : Fin 3)).val = (j (2 : Fin 3)).val; omega

theorem slot_emb (r : Fin 4) (j : S1x256x128.Idx) : ((slotR r).emb j) (0 : Fin 3) = r := by
  have j0 : (j (0 : Fin 3)).val < 1 := (j (0 : Fin 3)).isLt
  apply Fin.ext
  show r.val + 1 * (j (0 : Fin 3)).val = r.val
  omega

/-- Four slots held are the receive buffer held at some contents. -/
theorem rec_join (c : Dev nD) (M : Memref sig .tc .vmem S4x256x128 .f32) :
    (BI.bigSep Finset.univ fun r : Fin 4 => held c (slotOf M r)) ⊢ (held c M : sProp 𝕄) := by
  have hp : (BI.bigSep Finset.univ fun r : Fin 4 => held c (slotOf M r))
      ⊢ (iprop(∃ X : Fin 4 → S1x256x128.Idx → Elt F .f32, BI.bigSep Finset.univ fun r : Fin 4 =>
          owns (c.tc : Thread nD τ) (M.slice (slotR r) (fun _ => rfl)) fullShare (X r)) : sProp 𝕄) := by
    haveI : Nonempty (S1x256x128.Idx → Elt F .f32) := ⟨fun _ => (FloatOps.ofBits .f32 0 : F .f32)⟩
    rw [BI.bigSep_congr fun r _ => (held_slot c M r).symm]
    exact bigSep_exists_pi Finset.univ fun (r : Fin 4) (X : S1x256x128.Idx → Elt F .f32) =>
      (owns (c.tc : Thread nD τ) (M.slice (slotR r) (fun _ => rfl)) fullShare X : sProp 𝕄)
  have hX (X : Fin 4 → S1x256x128.Idx → Elt F .f32) : (BI.bigSep Finset.univ fun r : Fin 4 =>
      owns (c.tc : Thread nD τ) (M.slice (slotR r) (fun _ => rfl)) fullShare (X r)) ⊢ (held c M : sProp 𝕄) := by
    refine BIBase.Entails.trans ?_ ((owns_of_rects (c.tc : Thread nD τ) M fullShare slotR (fun _ _ => rfl) slotR_disj slotR_cover
      (fun x => X (x (0 : Fin 3)) (inSlot x))).trans (held_intro c M _))
    refine bigSep_mono fun r _ => ?_
    have e : (fun j : S1x256x128.Idx => X (((slotR r).emb j) (0 : Fin 3)) (inSlot ((slotR r).emb j))) = X r :=
      funext fun j => congrArg₂ X (slot_emb r j) (inSlot_emb r j)
    exact BIBase.Entails.of_eq (congrArg (fun Z => (owns (c.tc : Thread nD τ) (M.slice (slotR r) (fun _ => rfl)) fullShare Z : sProp 𝕄)) e.symm)
  refine hp.trans ?_
  iintro ⟨%X, H⟩
  iapply (hX X)
  iexact H

/-- What the kernel loads of a slot, cast to a half block's shape, is what the transfer's view of the slot reads. -/
theorem slot_load (M : Memref sig .tc .vmem S4x256x128 .f32) (r : Fin 4) (hc : S1x256x128.ShapeCasts S256x128)
    (f : M.view.ty.Contents (Elt F)) :
    shapeCast S256x128 (M.view.readAt (Elt F) (slotR r).toLoadRect f : S1x256x128.Idx → Elt F .f32) hc = (slotOf M r).view.read (Elt F) f := rfl

/-! ## The semaphores -/

/-- The semaphore counting what of transfer `i` has left its source device. -/
def sendS (i : ℕ) : DmaSem sig := ⟨4 + 8 * (i % 2) + i / 2 % 4, by show _ < 20; omega⟩

/-- The semaphore counting what of transfer `i` has arrived. -/
def recvS (i : ℕ) : DmaSem sig := ⟨8 + 8 * (i % 2) + i / 2 % 4, by show _ < 20; omega⟩

/-- What one transfer credits a semaphore with. -/
def N : ℕ := (halfM 0).view.dmaCredit

theorem N_half (h : Fin 2) : (halfM h).view.dmaCredit = N := rfl
theorem N_slotOf (h : Fin 2) (r : Fin 4) : (slotOf (recM h) r).view.dmaCredit = N := by revert h r; decide
theorem N_slot (i : ℕ) : (slotM i).view.dmaCredit = N := N_slotOf _ _
theorem N_pos : 0 < N := by decide

end Cert.Butterfly
-- ==== Proof.Protocol.lean ====
/-
# The handshake and the eight transfers: who hands what to whom, and what is owed

Every device first signals four partners, and with the signal of step `k` hands its partner the two slots that partner will
write: the slot of transfer `2 k` and the slot of transfer `7 - 2 k`. A transfer hands its destination the slot, written, and its
source the half block it was sent from. The contents are stated for any family `P` of blocks, one per device: what the devices
start the exchange from.
-/
module

public import proofs.«01_k».proof.Proof.Views

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb (URounds (GSem nD τ sig) (Fin 4)) (MT nD τ sig Unit (Elt F) ℕ UU ℕ) := embR

/-! ## Contents -/

variable (P : Dev nD → Vec F S256x256 .f32)

/-- What device `c` holds of half `i % 2` before its transfer `i`: at first its own block's half, then each round the sum with what
    the round's partner held. -/
def acc : ℕ → Dev nD → Vec F S256x128 .f32
  | 0, c => half 0 (P c)
  | 1, c => half 1 (P c)
  | i + 2, c => addf (acc i c) (acc i (mate i c))

/-- The block device `c` ends with. -/
def final (c : Dev nD) : Vec F S256x256 .f32 := glue fun h => acc P (8 + h.val) c

/-! ## The cells -/

/-- The runtime's barrier semaphore. -/
abbrev barS : Sem sig := (SemArray.scalar (sig.barrier 0 rfl) : Sems sig S_).sem

abbrev barCell (c : Dev nD) : GSem nD τ sig := ((c.tc : Thread nD τ), .reg barS)
abbrev sendCell (i : ℕ) (c : Dev nD) : GSem nD τ sig := ((c.tc : Thread nD τ), .dma (sendS i))
abbrev recvCell (i : ℕ) (c : Dev nD) : GSem nD τ sig := ((c.tc : Thread nD τ), .dma (recvS i))

/-- Which transfer a DMA semaphore of the kernel's belongs to, and on which side: `true` for the arrival side. -/
def side (q : DmaSem sig) : Option (Bool × Fin 8) :=
  if q.val < 4 then none
  else some (decide (q.val / 4 % 2 = 0), ⟨2 * (q.val % 4) + (if q.val < 12 then 0 else 1), by split <;> omega⟩)

theorem side_send (i : ℕ) (hi : i < 8) : side (sendS i) = some (false, ⟨i, hi⟩) := by
  have h : ∀ i : Fin 8, side (sendS i.val) = some (false, i) := by decide
  exact h ⟨i, hi⟩

theorem side_recv (i : ℕ) (hi : i < 8) : side (recvS i) = some (true, ⟨i, hi⟩) := by
  have h : ∀ i : Fin 8, side (recvS i.val) = some (true, i) := by decide
  exact h ⟨i, hi⟩

/-! ## The schedule -/

/-- What the signal of step `k` hands device `c`: the two slots, on the device that signals it at that step, that `c` will write. -/
def barPay (k : ℕ) (c : Dev nD) : sProp 𝕄 :=
  iprop(held (hail k c) (slotM (2 * k)) ∗ held (hail k c) (slotM (7 - 2 * k)))
/-- What a departed transfer hands its source: the half it was sent from. -/
def sendPay (i : ℕ) (c : Dev nD) : sProp 𝕄 := owns (c.tc : Thread nD τ) (halfM (hf i)) fullShare (acc P i c)
/-- What an arrived transfer hands its destination: the slot, holding what the partner held. -/
def recvPay (i : ℕ) (c : Dev nD) : sProp 𝕄 := owns (c.tc : Thread nD τ) (slotM i) fullShare (acc P i (mate i c))

instance barPay_storable (k : ℕ) (c : Dev nD) : BI.Storable (upEmb : UEmb _ 𝕄) (barPay (F := F) k c) := by unfold barPay; infer_instance
instance sendPay_storable (i : ℕ) (c : Dev nD) : BI.Storable (upEmb : UEmb _ 𝕄) (sendPay P i c) := by unfold sendPay; infer_instance
instance recvPay_storable (i : ℕ) (c : Dev nD) : BI.Storable (upEmb : UEmb _ 𝕄) (recvPay P i c) := by unfold recvPay; infer_instance

/-- What a semaphore of device `c` is awaited for. -/
def payAt (c : Dev nD) (d : Fin 4) : SemLoc sig → sProp 𝕄
  | .reg _ => barPay d.val c
  | .dma q => match side q with
    | some (false, i) => sendPay P i.val c
    | some (true, i) => recvPay P i.val c
    | none => iprop(emp)

/-- The duties of a semaphore: the barrier's four signals; a transfer's one. -/
def dutiesAt : SemLoc sig → Finset (Fin 4)
  | .reg _ => Finset.univ
  | .dma q => if side q = none then ∅ else {0}

/-- What one duty of a semaphore counts. -/
def amountAt : SemLoc sig → ℕ
  | .reg _ => 1
  | .dma _ => N

/-- Every cell has one round: the barrier's four signals of one unit, or one transfer's credit. -/
def Rd : Rounds.Schedule (GSem nD τ sig) (Fin 4) 𝕄 where
  duties g r := if r = 0 ∧ g.1.2 = .tc then dutiesAt g.2 else ∅
  unitless _ := False
  amount g _ _ := amountAt g.2
  payload g _ d := payAt P g.1.1 d g.2
  amount_pos g _ _ _ := by
    cases g.2 with
    | reg s => exact Nat.one_pos
    | dma q => exact N_pos

instance Rd_payload_storable (g : GSem nD τ sig) (r : ℕ) (d : Fin 4) : BI.Storable (upEmb : UEmb _ 𝕄) ((Rd P).payload g r d) := by
  show BI.Storable upEmb (payAt P g.1.1 d g.2)
  unfold payAt
  (repeat' split) <;> infer_instance

section Sched
variable (c : Dev nD) (i : ℕ) (hi : i < 8)
include hi

omit hi in
theorem duties_bar : (Rd P).duties (barCell c) 0 = Finset.univ := by
  dsimp only [Rd]
  rw [if_pos ⟨rfl, rfl⟩]; rfl
theorem duties_send : (Rd P).duties (sendCell i c) 0 = {0} := by
  dsimp only [Rd]
  rw [if_pos ⟨rfl, rfl⟩]; unfold dutiesAt; dsimp only; rw [side_send i hi]; rfl
theorem duties_recv : (Rd P).duties (recvCell i c) 0 = {0} := by
  dsimp only [Rd]
  rw [if_pos ⟨rfl, rfl⟩]; unfold dutiesAt; dsimp only; rw [side_recv i hi]; rfl
omit hi in
theorem duties_later (g : GSem nD τ sig) : ∀ r, 1 ≤ r → (Rd P).duties g r = ∅ := fun r hr => by
  dsimp only [Rd]
  exact if_neg fun h => by omega

omit hi in
theorem payload_bar (d : Fin 4) : (Rd P).payload (barCell c) 0 d = barPay d.val c := rfl
theorem payload_send (d : Fin 4) : (Rd P).payload (sendCell i c) 0 d = sendPay P i c := by
  show payAt P c d (.dma (sendS i)) = _
  unfold payAt; dsimp only; rw [side_send i hi]
theorem payload_recv (d : Fin 4) : (Rd P).payload (recvCell i c) 0 d = recvPay P i c := by
  show payAt P c d (.dma (recvS i)) = _
  unfold payAt; dsimp only; rw [side_recv i hi]

omit hi in
theorem expect_bar : (Rd P).expect (barCell c) 0 = 4 := by
  unfold Schedule.expect Schedule.amountOf; rw [duties_bar]; rfl
theorem expect_send : (Rd P).expect (sendCell i c) 0 = N := by
  unfold Schedule.expect Schedule.amountOf; rw [duties_send P c i hi, Finset.sum_singleton]; rfl
theorem expect_recv : (Rd P).expect (recvCell i c) 0 = N := by
  unfold Schedule.expect Schedule.amountOf; rw [duties_recv P c i hi, Finset.sum_singleton]; rfl

omit hi in
/-- All four signals arrived: the slots all four partners handed over. -/
theorem rest_bar : bigSep ((Rd P).duties (barCell c) 0 \ ∅) (fun d => (Rd P).payload (barCell c) 0 d)
    = (bigSep Finset.univ fun d : Fin 4 => barPay d.val c : sProp 𝕄) := by
  rw [Finset.sdiff_empty, duties_bar]; rfl
theorem rest_send : bigSep ((Rd P).duties (sendCell i c) 0 \ ∅) (fun d => (Rd P).payload (sendCell i c) 0 d) = sendPay P i c := by
  rw [Finset.sdiff_empty, duties_send P c i hi, bigSep_singleton, payload_send P c i hi]
theorem rest_recv : bigSep ((Rd P).duties (recvCell i c) 0 \ ∅) (fun d => (Rd P).payload (recvCell i c) 0 d) = recvPay P i c := by
  rw [Finset.sdiff_empty, duties_recv P c i hi, bigSep_singleton, payload_recv P c i hi]

end Sched

/-! ## What a device owes -/

/-- The cell device `c`'s payment `j` goes to: payments 0 to 3 are its signals, payment `4 + i` is its transfer `i`. -/
def dueCell (c : Dev nD) (j : ℕ) : GSem nD τ sig := if j < 4 then barCell (hail j c) else recvCell (j - 4) (mate (j - 4) c)
/-- How much it pays there. -/
def dueAmt (j : ℕ) : ℕ := if j < 4 then 1 else N

/-- What device `c` still owes once its first `n` payments are made. -/
def debt (n : ℕ) (c : Dev nD) : CellTallies nD τ sig Unit := ∑ j ∈ Finset.Ico n 12, tallyAt (dueCell c j) () (dueAmt j)

theorem debt_step (n : ℕ) (hn : n < 12) (c : Dev nD) : debt n c = debt (n + 1) c + tallyAt (dueCell c n) () (dueAmt n) := by
  have h : Finset.Ico n 12 = insert n (Finset.Ico (n + 1) 12) := by
    ext j; rw [Finset.mem_insert, Finset.mem_Ico, Finset.mem_Ico]; omega
  unfold debt
  rw [h, Finset.sum_insert (by rw [Finset.mem_Ico]; omega), add_comm]

theorem debt_signal (k : ℕ) (hk : k < 4) (c : Dev nD) : debt k c = debt (k + 1) c + tallyAt (barCell (hail k c)) () 1 := by
  rw [debt_step k (by omega) c]; unfold dueCell dueAmt; rw [if_pos hk, if_pos hk]

theorem debt_send (i : ℕ) (hi : i < 8) (c : Dev nD) : debt (4 + i) c = debt (5 + i) c + tallyAt (recvCell i (mate i c)) () N := by
  rw [debt_step (4 + i) (by omega) c]; unfold dueCell dueAmt
  rw [if_neg (by omega), if_neg (by omega), show 4 + i - 4 = i by omega, show 4 + i + 1 = 5 + i by omega]

theorem debt_done (c : Dev nD) : debt 12 c = 0 := by unfold debt; rw [Finset.Ico_self, Finset.sum_empty]

theorem debt_apply (n : ℕ) (c : Dev nD) (g : GSem nD τ sig) :
    debt n c g () = ∑ j ∈ Finset.Ico n 12, if g = dueCell c j then dueAmt j else 0 := by
  unfold debt
  rw [Finset.sum_apply, Finsupp.finset_sum_apply]
  refine Finset.sum_congr rfl fun j _ => ?_
  rw [tallyAt_apply]
  by_cases h : g = dueCell c j
  · rw [if_pos ⟨h, rfl⟩, if_pos h]
  · rw [if_neg fun h' => h h'.1, if_neg h]

theorem debt_pos {n : ℕ} {c : Dev nD} {g : GSem nD τ sig} {u : Unit} (h : 0 < debt n c g u) :
    ∃ j, n ≤ j ∧ j < 12 ∧ g = dueCell c j := by
  cases u
  rw [debt_apply] at h
  obtain ⟨j, hj, hp⟩ := Finset.exists_ne_zero_of_sum_ne_zero (Nat.pos_iff_ne_zero.mp h)
  rw [Finset.mem_Ico] at hj
  refine ⟨j, hj.1, hj.2, ?_⟩
  by_contra hn
  exact hp (if_neg hn)

/-! ## Levels: staging and departures below the barrier, the barrier below the arrivals, each arrival below the later ones -/

def L (g : GSem nD τ sig) : Finset Unit := if g.1.2 = .tc then {()} else ∅

def lvAt : SemLoc sig → ℕ
  | .reg _ => 1
  | .dma q => match side q with
    | some (true, i) => 2 + i.val
    | _ => 0

def lv (g : GSem nD τ sig) (_ : Unit) : ℕ := lvAt g.2

theorem L_of_ne (g : GSem nD τ sig) (h : g.1.2 ≠ .tc) : L g = ∅ := if_neg h
theorem L_tc (c : Dev nD) (sm : SemLoc sig) : L ((c.tc : Thread nD τ), sm) = {()} := if_pos rfl

theorem lv_send (i : ℕ) (hi : i < 8) : lvAt (.dma (sendS i)) = 0 := by unfold lvAt; dsimp only; rw [side_send i hi]
theorem lv_recv (i : ℕ) (hi : i < 8) : lvAt (.dma (recvS i)) = 2 + i := by unfold lvAt; dsimp only; rw [side_recv i hi]

theorem lv_due (c : Dev nD) (j : ℕ) (hj : j < 12) : lv (dueCell c j) () = if j < 4 then 1 else j - 2 := by
  unfold lv dueCell
  by_cases h : j < 4
  · rw [if_pos h, if_pos h]; rfl
  · rw [if_neg h, if_neg h]; show lvAt (.dma (recvS (j - 4))) = _; rw [lv_recv _ (by omega)]; omega

theorem L_due (c : Dev nD) (j : ℕ) : L (dueCell c j) = {()} := by
  unfold dueCell; split <;> exact L_tc _ _

/-- A device may wait at a semaphore below every payment it still owes. -/
theorem mayWait (c : Dev nD) (sm : SemLoc sig) (n : ℕ) (h : ∀ j, n ≤ j → j < 12 → lvAt sm < if j < 4 then 1 else j - 2) :
    (levAts L lv : sProp 𝕄) ⊢ MayWait (c.tc : Thread nD τ) sm () (debt n c) :=
  MayOwe.of_cut (L := L) (lev := lv) (lvAt sm) (fun p hp => by rw [Finset.mem_singleton.mp hp, L_tc]; exact Finset.mem_singleton_self _)
    (fun g u hg => by obtain ⟨j, _, _, rfl⟩ := debt_pos hg; rw [L_due]; exact Finset.mem_singleton_self _)
    (fun p hp => by rw [Finset.mem_singleton.mp hp]; exact le_refl _)
    (fun g u hg => by
      obtain ⟨j, h1, h2, rfl⟩ := debt_pos hg
      cases u
      rw [lv_due c j h2]; exact h j h1 h2)

theorem mayWait_low (c : Dev nD) (sm : SemLoc sig) (h0 : lvAt sm = 0) (n : ℕ) :
    (levAts L lv : sProp 𝕄) ⊢ MayWait (c.tc : Thread nD τ) sm () (debt n c) :=
  mayWait c sm n fun j _ _ => by rw [h0]; split <;> omega

theorem mayWait_bar (c : Dev nD) : (levAts L lv : sProp 𝕄) ⊢ MayWait (c.tc : Thread nD τ) (.reg barS) () (debt 4 c) :=
  mayWait c _ 4 fun j h4 _ => by rw [if_neg (by omega)]; show 1 < _; omega

theorem mayWait_recv (c : Dev nD) (i : ℕ) (hi : i < 8) (n : ℕ) (hn : 5 + i ≤ n) :
    (levAts L lv : sProp 𝕄) ⊢ MayWait (c.tc : Thread nD τ) (.dma (recvS i)) () (debt n c) :=
  mayWait c _ n fun j h _ => by rw [lv_recv i hi, if_neg (by omega)]; omega

/-! ## Every cell of the exchange, and the facts about them that any device may use -/

/-- A device's cells: its barrier, and for each transfer its departure (`false`) and its arrival (`true`). -/
abbrev CK : Type := Unit ⊕ (Bool × Fin 8)

/-- The semaphores of the eight transfers. -/
abbrev osem : Bool × Fin 8 → SemLoc sig
  | (false, i) => .dma (sendS i.val)
  | (true, i) => .dma (recvS i.val)

abbrev csem : CK → SemLoc sig
  | .inl _ => .reg barS
  | .inr k => osem k

abbrev kcell (ck : Dev nD × CK) : GSem nD τ sig := ((ck.1.tc : Thread nD τ), csem ck.2)

/-- The invariant of every cell, at the names `K`, and that every cell is at its round. -/
def records (K : Dev nD × CK → ℕ) : sProp 𝕄 :=
  iprop((bigSep Finset.univ fun ck : Dev nD × CK => cellInv ER (Rd P) (K ck) (kcell ck))
    ∗ bigSep Finset.univ fun ck : Dev nD × CK => reached ER (kcell ck) 0)

instance records_persistent (K : Dev nD × CK → ℕ) : BI.Persistent (records P K) := by unfold records; infer_instance

theorem inv_at (K : Dev nD × CK → ℕ) (ck : Dev nD × CK) : records P K ⊢ cellInv ER (Rd P) (K ck) (kcell ck) := by
  unfold records
  iintro ⟨H, -⟩
  iapply (show (bigSep Finset.univ fun ck : Dev nD × CK => (cellInv ER (Rd P) (K ck) (kcell ck) : sProp 𝕄)) ⊢ cellInv ER (Rd P) (K ck) (kcell ck)
    from bigSep_elim (Finset.mem_univ ck))
  iexact H

theorem reached_at (K : Dev nD × CK → ℕ) (ck : Dev nD × CK) : records P K ⊢ reached ER (kcell ck) 0 := by
  unfold records
  iintro ⟨-, H⟩
  iapply (show (bigSep Finset.univ fun ck : Dev nD × CK => (reached ER (kcell ck) 0 : sProp 𝕄)) ⊢ reached ER (kcell ck) 0
    from bigSep_elim (Finset.mem_univ ck))
  iexact H

end Cert.Butterfly
-- ==== Proof.Total.lean ====
/-
# The butterfly sums over all devices

Over the extended reals, where addition is commutative and associative, the four rounds leave every device with the sum of all
sixteen devices' blocks: the four bit patterns of either half reach every device from any device exactly once.
-/
module

public import proofs.«01_k».proof.Proof.Protocol
public import Idealize.ShloMosaic.PureOps.Ideal.Laws

@[expose] public section

noncomputable section

namespace Cert.Butterfly

open Cert.KernelIdeal Cert.KernelIdeal.Gen
open Idealize.ShloMosaic

variable (P : Dev nD → Vec Ideal S256x256 .f32)

/-- The device `c` itself, or its partner in transfer `i`. -/
def orMate (b : Bool) (i : ℕ) (c : Dev nD) : Dev nD := if b then mate i c else c

/-- One round on one half is the sum over a device and its partner. -/
theorem acc_step (i : ℕ) (c : Dev nD) (y : S256x128.Idx) :
    acc P (i + 2) c y = ∑ b : Bool, acc P i (orMate b i c) y := by
  rw [Fintype.sum_bool]
  exact add_comm (G := EReal) (acc P i c y) (acc P i (mate i c) y)

/-- Where the choices of the four rounds on half `h` lead from device `c`. -/
def reach (h : Fin 2) (c : Dev nD) (b : Bool × Bool × Bool × Bool) : Dev nD :=
  orMate b.2.2.2 h.val (orMate b.2.2.1 (2 + h.val) (orMate b.2.1 (4 + h.val) (orMate b.1 (6 + h.val) c)))

/-- They lead to every device, and to each in one way. -/
theorem reach_bijective : ∀ (h : Fin 2) (c : Dev nD), Function.Bijective (reach h c) := by decide +kernel

theorem acc_low (h : Fin 2) (c : Dev nD) : acc P h.val c = half h (P c) := by
  fin_cases h <;> rfl

/-- After the four rounds a half holds the sum of all devices' halves. -/
theorem acc_total (h : Fin 2) (c : Dev nD) (y : S256x128.Idx) : acc P (8 + h.val) c y = ∑ d : Dev nD, half h (P d) y := by
  rw [← (reach_bijective h c).sum_comp fun d => half h (P d) y]
  simp only [Fintype.sum_prod_type]
  rw [show 8 + h.val = (6 + h.val) + 2 by omega, acc_step]
  refine Finset.sum_congr rfl fun b3 _ => ?_
  rw [show 6 + h.val = (4 + h.val) + 2 by omega, acc_step]
  refine Finset.sum_congr rfl fun b2 _ => ?_
  rw [show 4 + h.val = (2 + h.val) + 2 by omega, acc_step]
  refine Finset.sum_congr rfl fun b1 _ => ?_
  rw [show 2 + h.val = h.val + 2 by omega, acc_step]
  refine Finset.sum_congr rfl fun b0 _ => ?_
  rw [acc_low]
  unfold reach
  rw [show 6 + h.val = h.val + 2 + 2 + 2 by omega, show 4 + h.val = h.val + 2 + 2 by omega, show 2 + h.val = h.val + 2 by omega]

/-- A block glued from the halves of one block is that block. -/
theorem glue_half (Y : Vec Ideal S256x256 .f32) : glue (fun h => half h Y) = Y := by
  funext x
  unfold glue half
  refine congrArg Y (funext fun a => Fin.ext ?_)
  have h0 : ∀ y : S256x128.Idx, ∀ h, (((halfR h).emb y) (0 : Fin 2)).val = 0 + 1 * (y (0 : Fin 2)).val := fun _ _ => rfl
  have h1 : ∀ y : S256x128.Idx, ∀ h : Fin 2, (((halfR h).emb y) (1 : Fin 2)).val = 128 * h.val + 1 * (y (1 : Fin 2)).val := fun _ _ => rfl
  fin_cases a
  · refine (h0 _ _).trans ?_
    show 0 + 1 * (x (0 : Fin 2)).val = (x (0 : Fin 2)).val
    omega
  · refine (h1 _ _).trans ?_
    show 128 * ((x (1 : Fin 2)).val / 128) + 1 * ((x (1 : Fin 2)).val % 128) = (x (1 : Fin 2)).val
    omega

/-- Every device ends with the sum of the blocks of all devices. -/
theorem final_eq_sum (c : Dev nD) : final P c = fun x => ∑ d : Dev nD, P d x := by
  rw [← glue_half (fun x => ∑ d : Dev nD, P d x)]
  unfold final
  refine congrArg glue (funext fun h => funext fun y => ?_)
  rw [acc_total]; rfl

end Cert.Butterfly

end
-- ==== Proof.Steps.lean ====
/-
# One rule per kind of step of the kernel

A signal, a transfer, the wait for its departure, the wait for an arrival, and the loads and stores of a half and of a slot: each
stated once, for every transfer and every device.
-/
module

public import proofs.«01_k».proof.Proof.Protocol

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c`'s kernel may run `p` to the end, `Q` holding of what it returns. -/
abbrev runs (c : Dev nD) {α : Type} (p : Prog (TpuEff nD τ sig (Elt F) Λ₀ .tc) α) (Q : α → sProp 𝕄) : sProp 𝕄 :=
  wp frame (wpE (defs₀ (F := F)) 𝒱₀ (c.tc : Thread nD τ) none) Set.univ p Q

/-- Device `c` owes what its payments from `n` on come to. -/
def owing (n : ℕ) (c : Dev nD) : sProp 𝕄 := iprop(∃ W, owes (c.tc : Thread nD τ) (debt n c) W)

theorem owing_intro (n : ℕ) (c : Dev nD) (W : Waits sig Unit) : (owes (c.tc : Thread nD τ) (debt n c) W : sProp 𝕄) ⊢ owing n c := by
  unfold owing; iintro H; iexists W; iexact H

variable (P : Dev nD → Vec F S256x256 .f32) (K : Dev nD × CK → ℕ) (c : Dev nD)
variable {α : Type} {Q : α → sProp (MT nD τ sig Unit (Elt F) ℕ UU ℕ)}

/-! ## The handshake -/

/-- The signal of step `k`, handing the partner the two slots it will write. -/
theorem step_signal (k : Fin 4) (n : Dev nD) (hn : n = hail k.val c) (a : ℕ) (ha : a = 1)
    {p : PUnit → Prog (TpuEff nD τ sig (Elt F) Λ₀ .tc) α} :
    iprop(records P K ∗ owing k.val c ∗ dutyTok ER (barCell (hail k.val c)) 0 k
        ∗ held c (slotM (2 * k.val)) ∗ held c (slotM (7 - 2 * k.val)))
      ⊢ iprop((owing (k.val + 1) c -∗ runs c (p ⟨⟩) Q)
          -∗ runs c (.op (.semSignal (n.tc : Thread nD τ) barS a) p) Q) := by
  subst hn ha
  unfold owing runs
  iintro ⟨#HR, ⟨%W, HO⟩, Ht, H1, H2⟩ Hk
  iapply (Rounds.wp_signal 𝒱₀ ER (Rd P) (c.tc : Thread nD τ) none (dst := ((hail k.val c).tc : Thread nD τ)) (κ := K (hail k.val c, .inl ()))
      (d := k) (by rw [duties_bar]; exact Finset.mem_univ _) rfl () (debt (k.val + 1) c) (debt_signal k.val k.isLt c)) $$ [HO Ht H1 H2]
  · isplitr; · iapply (inv_at P K (hail k.val c, .inl ())); iexact HR
    isplitl [HO]; · iexact HO
    isplitl [Ht]; · iexact Ht
    isplitl [H1 H2]
    · rw [payload_bar]; unfold barPay; rw [show hail k.val (hail k.val c) = c from flip_flip _ _]
      isplitl [H1] <;> iassumption
    · iapply (reached_at P K (hail k.val c, .inl ())); iexact HR
  iintro HO
  iapply Hk
  iexists W; iexact HO

/-- The wait for all four signals: the partners' slots come with it, and the barrier is back at zero. -/
theorem step_barrier (a : ℕ) (ha : a = 4) {p : PUnit → Prog (TpuEff nD τ sig (Elt F) Λ₀ .tc) α} :
    iprop(records P K ∗ levAts L lv ∗ owing 4 c ∗ cred (tallyAt (barCell c) () 4) ∗ atPos ER (barCell c) 0 ∅ 0)
      ⊢ iprop(((owing 4 c ∗ semVal (barCell c) 0 ∗ bigSep Finset.univ fun d : Fin 4 => barPay d.val c) -∗ runs c (p ⟨⟩) Q)
          -∗ runs c (.op (.semWait barS a) p) Q) := by
  subst ha
  unfold owing runs
  iintro ⟨#HR, #HL, ⟨%W, HO⟩, Hc, Hat⟩ Hk
  iapply (Rounds.wp_wait_rest_token 𝒱₀ ER (Rd P) (c.tc : Thread nD τ) none (κ := K (c, .inl ()))
      (wpE_semWait_eq 𝒱₀ (c.tc : Thread nD τ) none Set.univ) (Set.mem_univ _) () (O := debt 4 c) (W := W) (R := 0) (m := 0) (T := ∅)
      (by rw [expect_bar])) $$ [HO Hc Hat]
  · isplitr; · iapply (inv_at P K (c, .inl ())); iexact HR
    isplitl [Hc]; · iexact Hc
    isplitl [HO]; · iexact HO
    isplitr; · iapply (mayWait_bar c); iexact HL
    iexact Hat
  iintro ⟨HO, Hat, -, Hpay⟩
  ihave Hp := (Entails.of_eq (rest_bar P c)) $$ Hpay
  imod (Rounds.cell_close ER (Rd P) (Set.mem_univ (K (c, .inl ()))) (fun h => h) (R := 0 + 1) (duties_later P (barCell c))) $$ [Hat] with Hz
  · isplitr; · iapply (inv_at P K (c, .inl ())); iexact HR
    iexact Hat
  iapply Hk
  isplitl [HO]; · iexists _; iexact HO
  isplitl [Hz]; · iexact Hz
  iexact Hp

/-! ## The transfers -/

variable (i : ℕ) (hi : i < 8)
include hi

/-- Transfer `i` leaves: it takes the half and the partner's slot along. -/
theorem step_send (n : Dev nD) (hn : n = mate i c)
    {hsc : (slotM i : Memref sig (n.tc : Thread nD τ).2.kind .vmem S256x128 .f32).view.ref.isScScratch = false}
    {hsrc : (halfM (hf i)).view.WordExact} {hdst : (slotM i).view.WordExact}
    {hsem : DmaTarget.Typed .vmem (.dma (recvS i)) (.remote (n.tc : Thread nD τ) (slotM i : Memref sig (n.tc : Thread nD τ).2.kind .vmem S256x128 .f32) (.dma (sendS i)) hsc)}
    {p : PUnit → Prog (TpuEff nD τ sig (Elt F) Λ₀ .tc) α} :
    iprop(records P K ∗ owing (4 + i) c ∗ owns (c.tc : Thread nD τ) (halfM (hf i)) fullShare (acc P i c) ∗ held (mate i c) (slotM i)
        ∗ dutyTok ER (sendCell i c) 0 0 ∗ dutyTok ER (recvCell i (mate i c)) 0 0)
      ⊢ iprop(((owing (5 + i) c ∗ cred (tallyAt (sendCell i c) () N)) -∗ runs c (p ⟨⟩) Q)
          -∗ runs c (.op (.enqueueDma (halfM (hf i)) (.remote (n.tc : Thread nD τ) (slotM i) (.dma (sendS i)) hsc) (.dma (recvS i)) hsrc hdst hsem) p) Q) := by
  subst hn
  unfold owing held runs
  conv_lhs => unfold owns
  iintro ⟨#HR, ⟨%W, HO⟩, ⟨%fs, %hfs, Hs⟩, ⟨%Y, %fd, %hfd, Hd⟩, Hts, Htr⟩ Hk
  iapply (Rounds.wp_send_pointsTo 𝒱₀ ER (Rd P) (c.tc : Thread nD τ) none (κ₁ := K (c, .inr (false, ⟨i, hi⟩))) (κ₂ := K (mate i c, .inr (true, ⟨i, hi⟩)))
    (r₁ := 0) (r₂ := 0) (d₁ := 0) (d₂ := 0) (fd := fd)
    (by rw [duties_send P c i hi]; exact Finset.mem_singleton_self _) (by rw [duties_recv P _ i hi]; exact Finset.mem_singleton_self _)
    () () N (show (slotM i).view.amount (.dma (recvS i)) = N from N_slot i) rfl rfl (debt (5 + i) c) (debt_send i hi c) (W := W)
    (by
      rw [payload_send P c i hi]; unfold sendPay owns
      iintro H; iexists fs
      isplitr; · ipureintro; exact hfs
      iexact H)
    (by
      rw [payload_recv P _ i hi, hfs]; unfold recvPay owns
      rw [show mate i (mate i c) = c from flip_flip _ _]
      iintro H; iexists _
      isplitr
      rotate_left
      · iexact H
      · ipureintro; exact View.read_write_univ _ _)) $$ [HO Hs Hd Hts Htr]
  · isplitr; · iapply (inv_at P K (c, .inr (false, ⟨i, hi⟩))); iexact HR
    isplitr; · iapply (inv_at P K (mate i c, .inr (true, ⟨i, hi⟩))); iexact HR
    isplitl [Hs]; · iexact Hs
    isplitl [Hd]; · iexact Hd
    isplitl [HO]; · iexact HO
    isplitl [Hts]; · iexact Hts
    isplitr; · iapply (reached_at P K (c, .inr (false, ⟨i, hi⟩))); iexact HR
    isplitl [Htr]; · iexact Htr
    iapply (reached_at P K (mate i c, .inr (true, ⟨i, hi⟩))); iexact HR
  iintro ⟨Hc, HO⟩
  iapply Hk
  isplitl [HO]; · iexists W; iexact HO
  iexact Hc

/-- The wait for transfer `i`'s departure: the half is back, and its semaphore at zero. -/
theorem step_departed (n : ℕ) {src dst : Memref sig .tc .vmem S256x128 .f32} (hN : dst.view.dmaCredit = N)
    {hsrc : src.view.WordExact} {hdst : dst.view.WordExact} {p : PUnit → Prog (TpuEff nD τ sig (Elt F) Λ₀ .tc) α} :
    iprop(records P K ∗ levAts L lv ∗ owing n c ∗ cred (tallyAt (sendCell i c) () N) ∗ atPos ER (sendCell i c) 0 ∅ 0)
      ⊢ iprop(((owing n c ∗ semVal (sendCell i c) 0 ∗ owns (c.tc : Thread nD τ) (halfM (hf i)) fullShare (acc P i c)) -∗ runs c (p ⟨⟩) Q)
          -∗ runs c (.op (.waitDma2 (sendS i) src dst hsrc hdst) p) Q) := by
  unfold owing runs
  iintro ⟨#HR, #HL, ⟨%W, HO⟩, Hc, Hat⟩ Hk
  rw [← hN]
  iapply (Rounds.wp_wait_rest_token 𝒱₀ ER (Rd P) (c.tc : Thread nD τ) none (κ := K (c, .inr (false, ⟨i, hi⟩)))
      (wpE_waitDma2_eq 𝒱₀ (c.tc : Thread nD τ) none Set.univ) (Set.mem_univ _) () (O := debt n c) (W := W) (R := 0) (m := 0) (T := ∅)
      (by rw [expect_send P c i hi, Nat.zero_add]; exact hN)) $$ [HO Hc Hat]
  · isplitr; · iapply (inv_at P K (c, .inr (false, ⟨i, hi⟩))); iexact HR
    isplitl [Hc]; · iexact Hc
    isplitl [HO]; · iexact HO
    isplitr; · iapply (mayWait_low c _ (lv_send i hi) n); iexact HL
    iexact Hat
  iintro ⟨HO, Hat, -, Hpay⟩
  ihave Hp := (Entails.of_eq (rest_send P c i hi)) $$ Hpay
  imod (Rounds.cell_close ER (Rd P) (Set.mem_univ (K (c, .inr (false, ⟨i, hi⟩)))) (fun h => h) (R := 0 + 1) (duties_later P (sendCell i c))) $$ [Hat] with Hz
  · isplitr; · iapply (inv_at P K (c, .inr (false, ⟨i, hi⟩))); iexact HR
    iexact Hat
  iapply Hk
  isplitl [HO]; · iexists _; iexact HO
  isplitl [Hz]; · iexact Hz
  unfold sendPay
  iexact Hp

/-- The wait for the partner's transfer `i` to arrive: the slot, holding what the partner held, and its semaphore at zero. -/
theorem step_arrived (n : ℕ) (hn : 5 + i ≤ n) {src dst : Memref sig .tc .vmem S256x128 .f32} (hN : dst.view.dmaCredit = N)
    {hsrc : src.view.WordExact} {hdst : dst.view.WordExact} {p : PUnit → Prog (TpuEff nD τ sig (Elt F) Λ₀ .tc) α} :
    iprop(records P K ∗ levAts L lv ∗ owing n c ∗ cred (tallyAt (recvCell i c) () N) ∗ atPos ER (recvCell i c) 0 ∅ 0)
      ⊢ iprop(((owing n c ∗ semVal (recvCell i c) 0 ∗ owns (c.tc : Thread nD τ) (slotM i) fullShare (acc P i (mate i c))) -∗ runs c (p ⟨⟩) Q)
          -∗ runs c (.op (.waitDma2 (recvS i) src dst hsrc hdst) p) Q) := by
  unfold owing runs
  iintro ⟨#HR, #HL, ⟨%W, HO⟩, Hc, Hat⟩ Hk
  rw [← hN]
  iapply (Rounds.wp_wait_rest_token 𝒱₀ ER (Rd P) (c.tc : Thread nD τ) none (κ := K (c, .inr (true, ⟨i, hi⟩)))
      (wpE_waitDma2_eq 𝒱₀ (c.tc : Thread nD τ) none Set.univ) (Set.mem_univ _) () (O := debt n c) (W := W) (R := 0) (m := 0) (T := ∅)
      (by rw [expect_recv P c i hi, Nat.zero_add]; exact hN)) $$ [HO Hc Hat]
  · isplitr; · iapply (inv_at P K (c, .inr (true, ⟨i, hi⟩))); iexact HR
    isplitl [Hc]; · iexact Hc
    isplitl [HO]; · iexact HO
    isplitr; · iapply (mayWait_recv c i hi n hn); iexact HL
    iexact Hat
  iintro ⟨HO, Hat, -, Hpay⟩
  ihave Hp := (Entails.of_eq (rest_recv P c i hi)) $$ Hpay
  imod (Rounds.cell_close ER (Rd P) (Set.mem_univ (K (c, .inr (true, ⟨i, hi⟩)))) (fun h => h) (R := 0 + 1) (duties_later P (recvCell i c))) $$ [Hat] with Hz
  · isplitr; · iapply (inv_at P K (c, .inr (true, ⟨i, hi⟩))); iexact HR
    iexact Hat
  iapply Hk
  isplitl [HO]; · iexists _; iexact HO
  isplitl [Hz]; · iexact Hz
  unfold recvPay
  iexact Hp

omit hi

/-! ## The loads and stores between -/

/-- Loading a half gives its contents. -/
theorem step_load_half (h : Fin 2) (X : Vec F S256x128 .f32) {hl : outM.view.LoadsAt (halfR h).toLoadRect}
    {p : Vec F S256x128 .f32 → Prog (TpuEff nD τ sig (Elt F) Λ₀ .tc) α} :
    (owns (c.tc : Thread nD τ) (halfM h) fullShare X : sProp 𝕄)
      ⊢ iprop((owns (c.tc : Thread nD τ) (halfM h) fullShare X -∗ runs c (p X) Q)
          -∗ runs c (.op (.load outM (halfR h).toLoadRect hl) p) Q) := by
  unfold owns runs
  iintro ⟨%f, %hX, H⟩ Hk
  subst hX
  iapply (wp_load 𝒱₀ (c.tc : Thread nD τ) none Set.univ (m := outM) (show outM.view.setOn (halfR h).toLoadRect.set ⊆ (halfM h).view.set by
    rw [show (halfM h).view.set = _ from View.set_slice _ _]; exact Finset.Subset.refl _)) $$ H
  iintro H
  iapply Hk
  iexists f
  isplitr; · ipureintro; rfl
  iexact H

/-- Storing a half gives it the stored contents. -/
theorem step_store_half (h : Fin 2) (X w : Vec F S256x128 .f32) {hx : (outM.access (halfR h)).Stores Finset.univ}
    {hm} {p : PUnit → Prog (TpuEff nD τ sig (Elt F) Λ₀ .tc) α} :
    (owns (c.tc : Thread nD τ) (halfM h) fullShare X : sProp 𝕄)
      ⊢ iprop((owns (c.tc : Thread nD τ) (halfM h) fullShare w -∗ runs c (p ⟨⟩) Q)
          -∗ runs c (.op (.store outM (halfR h) w Finset.univ hx hm) p) Q) := by
  unfold owns runs
  iintro ⟨%f, %hX, H⟩ Hk
  iapply (wp_store 𝒱₀ (c.tc : Thread nD τ) none Set.univ (m := outM) (r := halfR h) (Mk := Finset.univ) (w := w)
    (show (outM.access (halfR h)).setOn Finset.univ ⊆ (halfM h).view.set from Finset.Subset.refl _)) $$ H
  iintro H
  iapply Hk
  iexists _
  isplitr
  rotate_left
  · iexact H
  · ipureintro; exact View.read_write_univ (v := (halfM h).view) f w

/-- Loading a slot gives contents that are the slot's once their unit axis is dropped. -/
theorem step_load_slot (M : Memref sig .tc .vmem S4x256x128 .f32) (r : Fin 4) (Y : Vec F S256x128 .f32) {hl : M.view.LoadsAt (slotR r).toLoadRect}
    {p : Vec F S1x256x128 .f32 → Prog (TpuEff nD τ sig (Elt F) Λ₀ .tc) α} :
    (owns (c.tc : Thread nD τ) (slotOf M r) fullShare Y : sProp 𝕄)
      ⊢ iprop((∀ y : Vec F S1x256x128 .f32, ⌜∀ hc, shapeCast S256x128 y hc = Y⌝ -∗ owns (c.tc : Thread nD τ) (slotOf M r) fullShare Y -∗ runs c (p y) Q)
          -∗ runs c (.op (.load M (slotR r).toLoadRect hl) p) Q) := by
  unfold owns runs
  iintro ⟨%f, %hY, H⟩ Hk
  iapply (wp_load 𝒱₀ (c.tc : Thread nD τ) none Set.univ (m := M) (show M.view.setOn (slotR r).toLoadRect.set ⊆ (slotOf M r).view.set by
    rw [show (slotOf M r).view.set = (M.view.slice (slotR r)).set from View.set_reshape _ _, View.set_slice]; exact Finset.Subset.refl _)) $$ H
  iintro H
  iapply Hk $$ %(M.view.readAt (Elt F) (slotR r).toLoadRect f) [] [H]
  · ipureintro; exact fun hc => (slot_load M r hc f).trans hY
  · iexists f
    isplitr; · ipureintro; exact hY
    iexact H

end Cert.Butterfly
-- ==== Proof.Round.lean ====
/-
# One round of the butterfly

Both halves leave for their partners; then, for each half, its departure and the partner's arrival are awaited and the half is
replaced by its sum with what arrived. Stated once for the transfers `i` and `i + 1` of any round.
-/
module

public import proofs.«01_k».proof.Proof.Steps

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Vec F S256x256 .f32) (K : Dev nD × CK → ℕ) (c : Dev nD)
variable {α : Type} {Q : α → sProp (MT nD τ sig Unit (Elt F) ℕ UU ℕ)}

/-- Device `c`'s rights on its transfer `i` and on the one it receives: its place in both semaphores' rounds, the tokens of the two
    payments its own transfer makes, and the credit of the one it will receive. -/
def tick (i : ℕ) (c : Dev nD) : sProp 𝕄 :=
  iprop(atPos ER (sendCell i c) 0 ∅ 0 ∗ atPos ER (recvCell i c) 0 ∅ 0
    ∗ dutyTok ER (sendCell i c) 0 0 ∗ dutyTok ER (recvCell i (mate i c)) 0 0 ∗ cred (tallyAt (recvCell i c) () N))

/-- Both semaphores of device `c`'s transfer `i` at zero. -/
def closed (i : ℕ) (c : Dev nD) : sProp 𝕄 := iprop(semVal (sendCell i c) 0 ∗ semVal (recvCell i c) 0)

/-- The waits for transfer `i` in both directions, then the half replaced by the sum with what arrived. -/
theorem collect (i : ℕ) (hi : i < 8) (n : ℕ) (hn : 5 + i ≤ n)
    {s₁ d₁ s₂ d₂ : Memref sig .tc .vmem S256x128 .f32} (hN₁ : d₁.view.dmaCredit = N) (hN₂ : d₂.view.dmaCredit = N)
    {hs₁ : s₁.view.WordExact} {hd₁ : d₁.view.WordExact} {hs₂ : s₂.view.WordExact} {hd₂ : d₂.view.WordExact}
    {hl₁ hl₃ : outM.view.LoadsAt (halfR (hf i)).toLoadRect} {hl₂ : (recM (hf i)).view.LoadsAt (slotR (rd i)).toLoadRect}
    {hx : (outM.access (halfR (hf i))).Stores Finset.univ} {hm}
    (f : Vec F S256x128 .f32 → Vec F S1x256x128 .f32 → Vec F S256x128 .f32)
    (hf' : ∀ a b h, f a b = addf a (shapeCast S256x128 b h))
    {p : PUnit → Prog (TpuEff nD τ sig (Elt F) Λ₀ .tc) α} :
    iprop(records P K ∗ levAts L lv ∗ owing n c ∗ cred (tallyAt (sendCell i c) () N) ∗ atPos ER (sendCell i c) 0 ∅ 0
        ∗ cred (tallyAt (recvCell i c) () N) ∗ atPos ER (recvCell i c) 0 ∅ 0)
      ⊢ iprop(((owing n c ∗ owns (c.tc : Thread nD τ) (halfM (hf i)) fullShare (acc P (i + 2) c) ∗ held c (slotM i) ∗ closed i c)
            -∗ runs c (p ⟨⟩) Q)
          -∗ runs c (.op (.waitDma2 (sendS i) s₁ d₁ hs₁ hd₁) fun _ => .op (.waitDma2 (recvS i) s₂ d₂ hs₂ hd₂) fun _ =>
            .op (.load outM (halfR (hf i)).toLoadRect hl₁) fun a => .op (.load (recM (hf i)) (slotR (rd i)).toLoadRect hl₂) fun b =>
            .op (.load outM (halfR (hf i)).toLoadRect hl₃) fun _ => .op (.store outM (halfR (hf i)) (f a b) Finset.univ hx hm) p) Q) := by
  iintro ⟨#HR, #HL, HO, Hcs, Has, Hcr, Har⟩ Hk
  iapply (step_departed P K c i hi n hN₁) $$ [HO Hcs Has]
  · isplitr; · iexact HR
    isplitr; · iexact HL
    isplitl [HO]; · iexact HO
    isplitl [Hcs] <;> iassumption
  iintro ⟨HO, Hzs, Hh⟩
  iapply (step_arrived P K c i hi n hn hN₂) $$ [HO Hcr Har]
  · isplitr; · iexact HR
    isplitr; · iexact HL
    isplitl [HO]; · iexact HO
    isplitl [Hcr] <;> iassumption
  iintro ⟨HO, Hzr, Hs⟩
  iapply (step_load_half c (hf i) (acc P i c)) $$ Hh
  iintro Hh
  iapply (step_load_slot c (recM (hf i)) (rd i) (acc P i (mate i c))) $$ Hs
  iintro %b %hb Hs
  iapply (step_load_half c (hf i) (acc P i c)) $$ Hh
  iintro Hh
  iapply (step_store_half c (hf i) (acc P i c) (f (acc P i c) b)) $$ Hh
  iintro Hh
  rw [show f (acc P i c) b = acc P (i + 2) c from
    (hf' _ b shapeCasts_S1x256x128_S256x128).trans (congrArg (addf (acc P i c)) (hb _))]
  iapply Hk
  isplitl [HO]; · iexact HO
  isplitl [Hh]; · iexact Hh
  isplitl [Hs]; · iapply (held_intro c (slotM i) (acc P i (mate i c))); iexact Hs
  unfold closed
  isplitl [Hzs] <;> iassumption

/-- One round: transfers `i` and `i + 1` leave, then each half becomes its sum with what arrived for it. -/
theorem round (i : ℕ) (hi : i + 1 < 8) (n₁ n₂ : Dev nD) (hn₁ : n₁ = mate i c) (hn₂ : n₂ = mate (i + 1) c)
    {hsc : (slotM i : Memref sig (n₁.tc : Thread nD τ).2.kind .vmem S256x128 .f32).view.ref.isScScratch = false}
    {hsrc : (halfM (hf i)).view.WordExact} {hdst : (slotM i).view.WordExact}
    {hsem : DmaTarget.Typed .vmem (.dma (recvS i)) (.remote (n₁.tc : Thread nD τ) (slotM i : Memref sig (n₁.tc : Thread nD τ).2.kind .vmem S256x128 .f32) (.dma (sendS i)) hsc)}
    {hsc' : (slotM (i + 1) : Memref sig (n₂.tc : Thread nD τ).2.kind .vmem S256x128 .f32).view.ref.isScScratch = false}
    {hsrc' : (halfM (hf (i + 1))).view.WordExact} {hdst' : (slotM (i + 1)).view.WordExact}
    {hsem' : DmaTarget.Typed .vmem (.dma (recvS (i + 1))) (.remote (n₂.tc : Thread nD τ) (slotM (i + 1) : Memref sig (n₂.tc : Thread nD τ).2.kind .vmem S256x128 .f32) (.dma (sendS (i + 1))) hsc')}
    {s₁ d₁ s₂ d₂ s₃ d₃ s₄ d₄ : Memref sig .tc .vmem S256x128 .f32} (hN₁ : d₁.view.dmaCredit = N) (hN₂ : d₂.view.dmaCredit = N)
    (hN₃ : d₃.view.dmaCredit = N) (hN₄ : d₄.view.dmaCredit = N)
    {hs₁ : s₁.view.WordExact} {hd₁ : d₁.view.WordExact} {hs₂ : s₂.view.WordExact} {hd₂ : d₂.view.WordExact}
    {hs₃ : s₃.view.WordExact} {hd₃ : d₃.view.WordExact} {hs₄ : s₄.view.WordExact} {hd₄ : d₄.view.WordExact}
    {hl₁ hl₃ : outM.view.LoadsAt (halfR (hf i)).toLoadRect} {hl₂ : (recM (hf i)).view.LoadsAt (slotR (rd i)).toLoadRect}
    {hl₄ hl₆ : outM.view.LoadsAt (halfR (hf (i + 1))).toLoadRect} {hl₅ : (recM (hf (i + 1))).view.LoadsAt (slotR (rd (i + 1))).toLoadRect}
    {hx : (outM.access (halfR (hf i))).Stores Finset.univ} {hm} {hx' : (outM.access (halfR (hf (i + 1)))).Stores Finset.univ} {hm'}
    (f f' : Vec F S256x128 .f32 → Vec F S1x256x128 .f32 → Vec F S256x128 .f32)
    (hf₁ : ∀ a b h, f a b = addf a (shapeCast S256x128 b h)) (hf₂ : ∀ a b h, f' a b = addf a (shapeCast S256x128 b h))
    {p : PUnit → Prog (TpuEff nD τ sig (Elt F) Λ₀ .tc) α} :
    iprop(records P K ∗ levAts L lv ∗ owing (4 + i) c
        ∗ (owns (c.tc : Thread nD τ) (halfM (hf i)) fullShare (acc P i c) ∗ owns (c.tc : Thread nD τ) (halfM (hf (i + 1))) fullShare (acc P (i + 1) c))
        ∗ (held (mate i c) (slotM i) ∗ held (mate (i + 1) c) (slotM (i + 1))) ∗ tick i c ∗ tick (i + 1) c)
      ⊢ iprop(((owing (6 + i) c
            ∗ (owns (c.tc : Thread nD τ) (halfM (hf i)) fullShare (acc P (i + 2) c) ∗ owns (c.tc : Thread nD τ) (halfM (hf (i + 1))) fullShare (acc P (i + 3) c))
            ∗ (held c (slotM i) ∗ held c (slotM (i + 1))) ∗ closed i c ∗ closed (i + 1) c)
            -∗ runs c (p ⟨⟩) Q)
          -∗ runs c (.op (.enqueueDma (halfM (hf i)) (.remote (n₁.tc : Thread nD τ) (slotM i) (.dma (sendS i)) hsc) (.dma (recvS i)) hsrc hdst hsem) fun _ =>
            .op (.enqueueDma (halfM (hf (i + 1))) (.remote (n₂.tc : Thread nD τ) (slotM (i + 1)) (.dma (sendS (i + 1))) hsc') (.dma (recvS (i + 1))) hsrc' hdst' hsem') fun _ =>
            .op (.waitDma2 (sendS i) s₁ d₁ hs₁ hd₁) fun _ => .op (.waitDma2 (recvS i) s₂ d₂ hs₂ hd₂) fun _ =>
            .op (.load outM (halfR (hf i)).toLoadRect hl₁) fun a => .op (.load (recM (hf i)) (slotR (rd i)).toLoadRect hl₂) fun b =>
            .op (.load outM (halfR (hf i)).toLoadRect hl₃) fun _ => .op (.store outM (halfR (hf i)) (f a b) Finset.univ hx hm) fun _ =>
            .op (.waitDma2 (sendS (i + 1)) s₃ d₃ hs₃ hd₃) fun _ => .op (.waitDma2 (recvS (i + 1)) s₄ d₄ hs₄ hd₄) fun _ =>
            .op (.load outM (halfR (hf (i + 1))).toLoadRect hl₄) fun a => .op (.load (recM (hf (i + 1))) (slotR (rd (i + 1))).toLoadRect hl₅) fun b =>
            .op (.load outM (halfR (hf (i + 1))).toLoadRect hl₆) fun _ => .op (.store outM (halfR (hf (i + 1))) (f' a b) Finset.univ hx' hm') p) Q) := by
  conv_lhs => unfold tick
  iintro ⟨#HR, #HL, HO, ⟨Ha, Hb⟩, ⟨Hda, Hdb⟩, ⟨Hsa, Hra, Hta, Hua, Hca⟩, ⟨Hsb, Hrb, Htb, Hub, Hcb⟩⟩ Hk
  iapply (step_send P K c i (by omega) n₁ hn₁) $$ [HO Ha Hda Hta Hua]
  · isplitr; · iexact HR
    isplitl [HO]; · iexact HO
    isplitl [Ha]; · iexact Ha
    isplitl [Hda]; · iexact Hda
    isplitl [Hta] <;> iassumption
  rw [show 5 + i = 4 + (i + 1) by omega]
  iintro ⟨HO, Hxa⟩
  iapply (step_send P K c (i + 1) hi n₂ hn₂) $$ [HO Hb Hdb Htb Hub]
  · isplitr; · iexact HR
    isplitl [HO]; · iexact HO
    isplitl [Hb]; · iexact Hb
    isplitl [Hdb]; · iexact Hdb
    isplitl [Htb] <;> iassumption
  rw [show 5 + (i + 1) = 6 + i by omega]
  iintro ⟨HO, Hxb⟩
  iapply (collect P K c i (by omega) (6 + i) (by omega) hN₁ hN₂ f hf₁) $$ [HO Hxa Hsa Hca Hra]
  · isplitr; · iexact HR
    isplitr; · iexact HL
    isplitl [HO]; · iexact HO
    isplitl [Hxa]; · iexact Hxa
    isplitl [Hsa]; · iexact Hsa
    isplitl [Hca] <;> iassumption
  iintro ⟨HO, Ha, Hda, Hza⟩
  iapply (collect P K c (i + 1) hi (6 + i) (by omega) hN₃ hN₄ f' hf₂) $$ [HO Hxb Hsb Hcb Hrb]
  · isplitr; · iexact HR
    isplitr; · iexact HL
    isplitl [HO]; · iexact HO
    isplitl [Hxb]; · iexact Hxb
    isplitl [Hsb]; · iexact Hsb
    isplitl [Hcb] <;> iassumption
  iintro ⟨HO, Hb, Hdb, Hzb⟩
  iapply Hk
  isplitl [HO]; · iexact HO
  isplitl [Ha Hb]
  · isplitl [Ha] <;> iassumption
  isplitl [Hda Hdb]
  · isplitl [Hda] <;> iassumption
  isplitl [Hza] <;> iassumption

end Cert.Butterfly
-- ==== Proof.Body.lean ====
/-
# The whole kernel on one device

Four signals, the device's own block, the barrier, four rounds. What the block is made of is kept as a function of what is staged:
`part`, the payloads of the program applied to it.
-/
module

public import proofs.«01_k».proof.Proof.Round

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The two slices of a device's share of the weights, as the kernel loads them. -/
def slab0 (w : Vec F S2x128x256 .f32) : Vec F S1x128x256 .f32 :=
  (Memref.whole cc0_stg2_0).view.readAt (Elt F) (Rect.unit (s := S2x128x256) ![0, 0, 0] S1x128x256.size inb_S2x128x256_S1x128x256_0_0_0).toLoadRect w
def slab1 (w : Vec F S2x128x256 .f32) : Vec F S1x128x256 .f32 :=
  (Memref.whole cc0_stg2_0).view.readAt (Elt F) (Rect.unit (s := S2x128x256) ![1, 0, 0] S1x128x256.size inb_S2x128x256_S1x128x256_1_0_0).toLoadRect w

/-- The block device `c` computes by itself: its two experts applied to the rows routed to them, from the staged rows, routes and weights. -/
def part (x : Vec F S256x128 .f32) (r : Vec F S256x1 .i32) (w : Vec F S2x128x256 .f32) (c : Dev nD) : Vec F S256x256 .f32 :=
  k0_pay5 (Scalar.remsi (Scalar.divsi (Dev.word c) 1#32) 16#32) (k0_pay2 (F := F) r) (k0_pay3 (F := F)) (k0_pay4 c r x) (slab0 w) x (slab1 w)

theorem zero₂ : (![0, 0] : Fin 2 → Nat) = fun _ => 0 := funext fun a => by fin_cases a <;> rfl

/-- Every payload of a round is the sum of the half and the slot. -/
theorem pay_sum (a : Vec F S256x128 .f32) (b : Vec F S1x256x128 .f32) (h : S1x256x128.ShapeCasts S256x128) (h' : S256x128.ShapeCasts S256x128) :
    addf (shapeCast S256x128 a h' : FVec F S256x128 .f32) (shapeCast S256x128 b h) = addf a (shapeCast S256x128 b h) := by
  rw [shapeCast_self]

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- What device `c` brings to the exchange beside its buffers: its place at its barrier and the credit of its four signals, the tokens of
    the four signals it sends, and its rights on the eight transfers. -/
def rights (c : Dev nD) : sProp 𝕄 :=
  iprop(atPos ER (barCell c) 0 ∅ 0 ∗ cred (tallyAt (barCell c) () 4)
    ∗ (bigSep Finset.univ fun k : Fin 4 => dutyTok ER (barCell (hail k.val c)) 0 k)
    ∗ bigSep Finset.univ fun i : Fin 8 => tick i.val c)

/-- A staging buffer of device `c` holding `X`. -/
abbrev stg (c : Dev nD) (b : Ref sig .tc) (X : Buf (Elt F) ((c.tc : Thread nD τ).loc b)) : sProp 𝕄 := (((c.tc : Thread nD τ).loc b) ↦{fullShare} X)

variable (P : Dev nD → Vec F S256x256 .f32) (K : Dev nD × CK → ℕ) (c : Dev nD)

set_option maxHeartbeats 4000000 in
set_option maxRecDepth 16000 in
/-- The kernel on device `c`, started with its rows, routes and weights staged, ends with the output block at `final P c`, its staged
    inputs as they were, its receive buffers back, all its semaphores at zero and nothing owed. -/
theorem body_run (x : Vec F S256x128 .f32) (r : Vec F S256x1 .i32) (w : Vec F S2x128x256 .f32) (y : Vec F S256x256 .f32) (hP : P c = part x r w c)
    (Q : PUnit → sProp 𝕄) :
    iprop(records P K ∗ levAts L lv ∗ owing 0 c ∗ rights c ∗ (held c (recM 0) ∗ held c (recM 1))
        ∗ stg c cc0_stg0_0 x ∗ stg c cc0_stg1_0 r ∗ stg c cc0_stg2_0 w ∗ stg c cc0_stg3_0 y)
      ⊢ iprop(((owing 12 c ∗ (held c (recM 0) ∗ held c (recM 1)) ∗ (semVal (barCell c) 0 ∗ bigSep Finset.univ fun i : Fin 8 => closed i.val c)
            ∗ stg c cc0_stg0_0 x ∗ stg c cc0_stg1_0 r ∗ stg c cc0_stg2_0 w ∗ stg c cc0_stg3_0 (final P c)) -∗ Q ⟨⟩)
          -∗ runs c (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            cc0_scratch2 cc0_scratch3 cc0_scratch4 cc0_scratch5) Q) := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [semSignalWord, semWaitWord, Prog.lift, Prog.bind_op, Prog.bind_ret, Prog.pure_eq_ret]
  unfold runs
  simp only [wp_deviceId]
  have es (h : Fin 2) := rec_split (F := F) c (recM h)
  have ej (h : Fin 2) := rec_join (F := F) c (recM h)
  simp only [bigSep_four] at es ej
  have hpay (c : Dev nD) := (bigSep_four (F := F) fun d : Fin 4 => barPay d.val c)
  unfold rights
  rw [bigSep_four, bigSep_eight, bigSep_eight]
  iintro ⟨#HR, #HL, HO, ⟨Hat, Hcb, ⟨T0, T1, T2, T3⟩, ⟨K0, K1, K2, K3, K4, K5, K6, K7⟩⟩, ⟨HA, HB⟩, Hx, Hr, Hw, Hy⟩ Hk
  ihave HA := (es 0) $$ HA
  ihave HB := (es 1) $$ HB
  icases HA with ⟨A0, A1, A2, A3⟩
  icases HB with ⟨B0, B1, B2, B3⟩
  -- the four signals
  iapply (step_signal P K c 0 _ (dev1 c) _ (by decide)) $$ [HO T0 A0 B3]
  · isplitr; · iexact HR
    isplitl [HO]; · iexact HO
    isplitl [T0]; · iexact T0
    isplitl [A0]; · iexact A0
    iexact B3
  iintro HO
  iapply (step_signal P K c 1 _ (dev2 c) _ (by decide)) $$ [HO T1 A1 B2]
  · isplitr; · iexact HR
    isplitl [HO]; · iexact HO
    isplitl [T1]; · iexact T1
    isplitl [A1]; · iexact A1
    iexact B2
  iintro HO
  iapply (step_signal P K c 2 _ (dev3 c) _ (by decide)) $$ [HO T2 A2 B1]
  · isplitr; · iexact HR
    isplitl [HO]; · iexact HO
    isplitl [T2]; · iexact T2
    isplitl [A2]; · iexact A2
    iexact B1
  iintro HO
  iapply (step_signal P K c 3 _ (dev4 c) _ (by decide)) $$ [HO T3 A3 B0]
  · isplitr; · iexact HR
    isplitl [HO]; · iexact HO
    isplitl [T3]; · iexact T3
    isplitl [A3]; · iexact A3
    iexact B0
  iintro HO
  -- the device's own block
  iapply (wp_load 𝒱₀ (c.tc : Thread nD τ) none Set.univ (m := Memref.whole cc0_stg1_0) (Finset.subset_univ _)) $$ Hr; iintro Hr
  rw [show (Memref.whole cc0_stg1_0).view.readAt (Elt F) (Rect.unit (s := S256x1) ![0, 0] S256x1.size inb_S256x1_S256x1_0_0).toLoadRect r = r
    from Memref.readAt_unit_zero (Elt F) cc0_stg1_0 zero₂ _ r]
  iapply (wp_load 𝒱₀ (c.tc : Thread nD τ) none Set.univ (m := Memref.whole cc0_stg0_0) (Finset.subset_univ _)) $$ Hx; iintro Hx
  rw [show (Memref.whole cc0_stg0_0).view.readAt (Elt F) (Rect.unit (s := S256x128) ![0, 0] S256x128.size inb_S256x128_S256x128_0_0).toLoadRect x = x
    from Memref.readAt_unit_zero (Elt F) cc0_stg0_0 zero₂ _ x]
  iapply (wp_load 𝒱₀ (c.tc : Thread nD τ) none Set.univ (m := Memref.whole cc0_stg2_0) (Finset.subset_univ _)) $$ Hw; iintro Hw
  iapply (wp_load 𝒱₀ (c.tc : Thread nD τ) none Set.univ (m := Memref.whole cc0_stg0_0) (Finset.subset_univ _)) $$ Hx; iintro Hx
  rw [show (Memref.whole cc0_stg0_0).view.readAt (Elt F) (Rect.unit (s := S256x128) ![0, 0] S256x128.size inb_S256x128_S256x128_0_0).toLoadRect x = x
    from Memref.readAt_unit_zero (Elt F) cc0_stg0_0 zero₂ _ x]
  iapply (wp_load 𝒱₀ (c.tc : Thread nD τ) none Set.univ (m := Memref.whole cc0_stg2_0) (Finset.subset_univ _)) $$ Hw; iintro Hw
  iapply (wp_load 𝒱₀ (c.tc : Thread nD τ) none Set.univ (m := Memref.whole cc0_stg3_0) (Finset.subset_univ _)) $$ Hy; iintro Hy
  iapply (wp_store 𝒱₀ (c.tc : Thread nD τ) none Set.univ (m := Memref.whole cc0_stg3_0)
    (r := Rect.unit (s := S256x256) ![0, 0] S256x256.size inb_S256x256_S256x256_0_0) (Mk := Finset.univ) (w := part x r w c) (Finset.subset_univ _)) $$ Hy
  iintro Hy
  rw [show ((Memref.whole cc0_stg3_0).access (Rect.unit (s := S256x256) ![0, 0] S256x256.size inb_S256x256_S256x256_0_0)).write (Elt F) y (part x r w c) Finset.univ
    = part x r w c from Memref.write_access_unit_zero_univ (Elt F) cc0_stg3_0 zero₂ _ y (part x r w c), ← hP]
  ihave Hy := (out_split c (P c)) $$ Hy
  icases Hy with ⟨Ha, Hb⟩
  -- the barrier: the slots of the partners
  iapply (step_barrier P K c _ (by decide)) $$ [HO Hat Hcb]
  · isplitr; · iexact HR
    isplitr; · iexact HL
    isplitl [HO]; · iexact HO
    isplitl [Hcb]; · iexact Hcb
    iexact Hat
  iintro ⟨HO, Hzb, Hpay⟩
  ihave Hpay := (Entails.of_eq (hpay c)) $$ Hpay
  unfold barPay
  icases Hpay with ⟨⟨D0, D7⟩, ⟨D2, D5⟩, ⟨D4, D3⟩, ⟨D6, D1⟩⟩
  -- the four rounds
  iapply (round P K c 0 (by decide) _ _ (dev5 c) (dev6 c) (N_half 0) (N_slot 0) (N_half 1) (N_slot 1) k0_pay6 k0_pay7
    (fun a b h => pay_sum a b h _) (fun a b h => pay_sum a b h _)) $$ [HO Ha Hb D0 D1 K0 K1]
  · isplitr; · iexact HR
    isplitr; · iexact HL
    isplitl [HO]; · iexact HO
    isplitl [Ha Hb]
    · isplitl [Ha]; · iexact Ha
      iexact Hb
    isplitl [D0 D1]
    · isplitl [D0]; · iexact D0
      iexact D1
    isplitl [K0]; · iexact K0
    iexact K1
  iintro ⟨HO, ⟨Ha, Hb⟩, ⟨A0, B0⟩, Z0, Z1⟩
  iapply (round P K c 2 (by decide) _ _ (dev7 c) (dev8 c) (N_half 0) (N_slot 2) (N_half 1) (N_slot 3) (fun a b => k0_pay9 (k0_pay8 a) b) k0_pay10
    (fun a b h => pay_sum a b h _) (fun a b h => pay_sum a b h _)) $$ [HO Ha Hb D2 D3 K2 K3]
  · isplitr; · iexact HR
    isplitr; · iexact HL
    isplitl [HO]; · iexact HO
    isplitl [Ha Hb]
    · isplitl [Ha]; · iexact Ha
      iexact Hb
    isplitl [D2 D3]
    · isplitl [D2]; · iexact D2
      iexact D3
    isplitl [K2]; · iexact K2
    iexact K3
  iintro ⟨HO, ⟨Ha, Hb⟩, ⟨A1, B1⟩, Z2, Z3⟩
  iapply (round P K c 4 (by decide) _ _ (dev9 c) (dev10 c) (N_half 0) (N_slot 4) (N_half 1) (N_slot 5) k0_pay11 k0_pay12
    (fun a b h => pay_sum a b h _) (fun a b h => pay_sum a b h _)) $$ [HO Ha Hb D4 D5 K4 K5]
  · isplitr; · iexact HR
    isplitr; · iexact HL
    isplitl [HO]; · iexact HO
    isplitl [Ha Hb]
    · isplitl [Ha]; · iexact Ha
      iexact Hb
    isplitl [D4 D5]
    · isplitl [D4]; · iexact D4
      iexact D5
    isplitl [K4]; · iexact K4
    iexact K5
  iintro ⟨HO, ⟨Ha, Hb⟩, ⟨A2, B2⟩, Z4, Z5⟩
  iapply (round P K c 6 (by decide) _ _ (dev11 c) (dev12 c) (N_half 0) (N_slot 6) (N_half 1) (N_slot 7) k0_pay13 (fun a b => k0_pay1 (k0_pay14 a) b)
    (fun a b h => pay_sum a b h _) (fun a b h => pay_sum a b h _)) $$ [HO Ha Hb D6 D7 K6 K7]
  · isplitr; · iexact HR
    isplitr; · iexact HL
    isplitl [HO]; · iexact HO
    isplitl [Ha Hb]
    · isplitl [Ha]; · iexact Ha
      iexact Hb
    isplitl [D6 D7]
    · isplitl [D6]; · iexact D6
      iexact D7
    isplitl [K6]; · iexact K6
    iexact K7
  iintro ⟨HO, ⟨Ha, Hb⟩, ⟨A3, B3⟩, Z6, Z7⟩
  -- what is handed back
  unfold runs
  rw [wp_ret]; imodintro
  iapply Hk
  isplitl [HO]; · iexact HO
  isplitl [A0 A1 A2 A3 B0 B1 B2 B3]
  · isplitl [A0 A1 A2 A3]
    · iapply (ej 0)
      isplitl [A0]; · iexact A0
      isplitl [A1]; · iexact A1
      isplitl [A2]; · iexact A2
      iexact A3
    · iapply (ej 1)
      isplitl [B0]; · iexact B0
      isplitl [B1]; · iexact B1
      isplitl [B2]; · iexact B2
      iexact B3
  isplitl [Hzb Z0 Z1 Z2 Z3 Z4 Z5 Z6 Z7]
  · isplitl [Hzb]; · iexact Hzb
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    iexact Z7
  isplitl [Hx]; · iexact Hx
  isplitl [Hr]; · iexact Hr
  isplitl [Hw]; · iexact Hw
  unfold final
  iapply (out_join c fun h => acc P (8 + h.val) c)
  isplitl [Ha]; · iexact Ha
  iexact Hb

end Cert.Butterfly
-- ==== Proof.Deal.lean ====
/-
# Dealing out the exchange's ghost state at launch

The launch mints, per device, a round state and a place for each of its seventeen semaphores and the tokens of the payments those
semaphores await. The invariants are allocated once for all devices; the tokens go to the devices that make the payments; and the
credit of what others owe a device is that device's.
-/
module

public import proofs.«01_k».proof.Proof.Body

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Vec F S256x256 .f32)

/-! ## The cells and the tokens minted -/

theorem csem_injective : Function.Injective csem := by decide

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- The payments a device's semaphores await: its barrier's four signals, and one per side of each transfer. -/
abbrev TK : Type := Fin 4 ⊕ (Bool × Fin 8)

/-- Which semaphore of the device a payment is at, and which duty of it. -/
abbrev tsem : TK → CK × Fin 4
  | .inl k => (.inl (), k)
  | .inr b => (.inr b, 0)

theorem tsem_injective : Function.Injective tsem := by
  rintro (k | b) (k' | b') h
  · rw [show k = k' from congrArg Prod.snd h]
  · exact absurd (congrArg Prod.fst h) nofun
  · exact absurd (congrArg Prod.fst h) nofun
  · rw [show b = b' from Sum.inr_injective (congrArg Prod.fst h)]

abbrev tokOf (cj : Dev nD × TK) : GSem nD τ sig × ℕ × Fin 4 := (kcell (cj.1, (tsem cj.2).1), 0, (tsem cj.2).2)

theorem tokOf_injective : Function.Injective tokOf := by
  rintro ⟨c, j⟩ ⟨c', j'⟩ h
  have h1 := kcell_injective (congrArg Prod.fst h)
  have h2 : (tsem j).2 = (tsem j').2 := congrArg (fun x : GSem nD τ sig × ℕ × Fin 4 => x.2.2) h
  have h3 : j = j' := tsem_injective (Prod.ext (congrArg Prod.snd h1) h2)
  rw [show c = c' from congrArg Prod.fst h1, h3]

def allToks : Finset (GSem nD τ sig × ℕ × Fin 4) := Finset.univ.map ⟨tokOf, tokOf_injective⟩

/-- The tokens of the payments device `c`'s semaphores await. -/
def minted (c : Dev nD) : sProp 𝕄 := bigSep Finset.univ fun j : TK => dutyTok ER (tokOf (c, j)).1 0 (tokOf (c, j)).2.2

/-- What the launch deals device `c`. -/
def G (c : Dev nD) : sProp 𝕄 :=
  iprop((bigSep Finset.univ fun k : CK => roundState ER (Rd P) (kcell (c, k)) 0)
    ∗ (bigSep Finset.univ fun k : CK => iprop(atPos ER (kcell (c, k)) 0 ∅ 0 ∗ reached ER (kcell (c, k)) 0)) ∗ minted c)

theorem fund : BI.own (ER (initOf allCells allToks)) ⊢ (|==> bigSep Finset.univ (G P) : sProp 𝕄) := by
  have hX (Φ : GSem nD τ sig → sProp 𝕄) :
      bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks minted; rw [bigSep_map, bigSep_univ_prod]; rfl
  iintro HX
  imod (Rounds.fund ER (Rd P) allCells allToks) $$ HX with ⟨Hst, Hr, Hat, Htok⟩
  imodintro
  ihave Hst := (Entails.of_eq (hX fun g => roundState ER (Rd P) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-! ## The invariants allocated, and the tokens handed to their payers -/

/-- What stays with device `c`: its places, and the tokens of the payments it makes. -/
def linear (c : Dev nD) : sProp 𝕄 :=
  iprop((bigSep Finset.univ fun k : CK => atPos ER (kcell (c, k)) 0 ∅ 0)
    ∗ (bigSep Finset.univ fun k : Fin 4 => dutyTok ER (barCell (hail k.val c)) 0 k)
    ∗ (bigSep Finset.univ fun i : Fin 8 => dutyTok ER (sendCell i.val c) 0 0)
    ∗ bigSep Finset.univ fun i : Fin 8 => dutyTok ER (recvCell i.val (mate i.val c)) 0 0)

/-- What device `c` has of the ghost state once all is allocated. -/
def G' (c : Dev nD) : sProp 𝕄 := iprop(∃ K, records P K ∗ linear c)

theorem bigSep_sides (Φ : Bool × Fin 8 → sProp 𝕄) :
    bigSep Finset.univ Φ = iprop((bigSep Finset.univ fun i : Fin 8 => Φ (false, i)) ∗ bigSep Finset.univ fun i : Fin 8 => Φ (true, i)) := by
  rw [bigSep_univ_prod, bigSep_univ_eq_bigSepL [false, true] (by decide) (by decide), bigSepL_cons_cons, bigSepL_singleton]; rfl

theorem bigSep_cells (Φ : CK → sProp 𝕄) :
    bigSep Finset.univ Φ = iprop(Φ (.inl ()) ∗ bigSep Finset.univ fun k : Bool × Fin 8 => Φ (.inr k)) := by
  rw [BI.bigSep_univ_sum, bigSep_univ_eq_bigSepL [()] (by decide) (by decide), bigSepL_singleton]; rfl

/-- The launch's unscoped semaphore is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [bigSep_cells, unscopedSems0_eq]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G P c)
      ⊢ |={Set.univ}=> iprop((bigSep Finset.univ fun k : CK => iprop(∃ κ : ℕ, cellInv ER (Rd P) κ (kcell (c, k))))
          ∗ (bigSep Finset.univ fun k : CK => iprop(atPos ER (kcell (c, k)) 0 ∅ 0 ∗ reached ER (kcell (c, k)) 0)) ∗ minted c) := by
  unfold G
  iintro ⟨Hos, Hus, Hst, Hat, Htok⟩
  ihave Hv := (sems0_eq (F := F) c) $$ [Hos Hus]
  · isplitl [Hos]; · iexact Hos
    iexact Hus
  imod (show iprop((bigSep Finset.univ fun k : CK => semVal (kcell (c, k)) 0) ∗ bigSep Finset.univ fun k : CK => roundState ER (Rd P) (kcell (c, k)) 0)
      ⊢ (|={Set.univ}=> bigSep Finset.univ fun k : CK => iprop(∃ κ : ℕ, cellInv ER (Rd P) κ (kcell (c, k))) : sProp 𝕄) from by
        rw [← bigSep_sep']
        exact (bigSep_mono fun k _ => (Rounds.body_intro ER (Rd P) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- Every token minted goes to the device that pays it: a barrier's to the four devices hailing it, an arrival's to the device
    sending, a departure's stays. -/
theorem deal_tokens : (bigSep Finset.univ fun c : Dev nD => (minted c : sProp 𝕄))
    ⊢ bigSep Finset.univ fun c : Dev nD => iprop((bigSep Finset.univ fun k : Fin 4 => dutyTok ER (barCell (hail k.val c)) 0 k)
    ∗ (bigSep Finset.univ fun i : Fin 8 => dutyTok ER (sendCell i.val c) 0 0)
    ∗ bigSep Finset.univ fun i : Fin 8 => dutyTok ER (recvCell i.val (mate i.val c)) 0 0) := by
  have hm (c : Dev nD) : (minted c : sProp 𝕄) = iprop((bigSep Finset.univ fun k : Fin 4 => dutyTok ER (barCell c) 0 k)
      ∗ (bigSep Finset.univ fun i : Fin 8 => dutyTok ER (sendCell i.val c) 0 0)
      ∗ bigSep Finset.univ fun i : Fin 8 => dutyTok ER (recvCell i.val c) 0 0) := by
    unfold minted; rw [BI.bigSep_univ_sum, bigSep_sides]; rfl
  have hb : (bigSep Finset.univ fun c : Dev nD => bigSep Finset.univ fun k : Fin 4 => (dutyTok ER (barCell c) 0 k : sProp 𝕄))
      = bigSep Finset.univ fun c : Dev nD => bigSep Finset.univ fun k : Fin 4 => dutyTok ER (barCell (hail k.val c)) 0 k := by
    rw [Pipeline.bigSep_univ_comm, Pipeline.bigSep_univ_comm (fun (c : Dev nD) (k : Fin 4) => (dutyTok ER (barCell (hail k.val c)) 0 k : sProp 𝕄))]
    exact bigSep_congr fun k _ => bigSep_univ_equiv (flipEquiv (sch k.val)) fun c : Dev nD => (dutyTok ER (barCell c) 0 k : sProp 𝕄)
  have hr : (bigSep Finset.univ fun c : Dev nD => bigSep Finset.univ fun i : Fin 8 => (dutyTok ER (recvCell i.val c) 0 0 : sProp 𝕄))
      = bigSep Finset.univ fun c : Dev nD => bigSep Finset.univ fun i : Fin 8 => dutyTok ER (recvCell i.val (mate i.val c)) 0 0 := by
    rw [Pipeline.bigSep_univ_comm, Pipeline.bigSep_univ_comm (fun (c : Dev nD) (i : Fin 8) => (dutyTok ER (recvCell i.val (mate i.val c)) 0 0 : sProp 𝕄))]
    exact bigSep_congr fun i _ => bigSep_univ_equiv (flipEquiv (mask i.val)) fun c : Dev nD => (dutyTok ER (recvCell i.val c) 0 0 : sProp 𝕄)
  rw [bigSep_congr fun c _ => hm c, bigSep_sep', bigSep_sep', hb, hr, bigSep_sep', bigSep_sep']

/-- Something persistent beside a conjunction is beside every member. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd P) κ (kcell (c, k))))
          ∗ (bigSep Finset.univ fun k : CK => iprop(atPos ER (kcell (c, k)) 0 ∅ 0 ∗ reached ER (kcell (c, k)) 0)) ∗ minted c) : sProp 𝕄)
      ⊢ bigSep Finset.univ (G' P) := by
  rw [bigSep_sep', bigSep_sep', ← bigSep_univ_prod (fun ck : Dev nD × CK => iprop(∃ κ : ℕ, cellInv ER (Rd P) κ (kcell ck))),
    bigSep_congr (s := Finset.univ) (fun (c : Dev nD) _ =>
      bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd P) κ (kcell ck) : sProp 𝕄))) $$ HI
  icases HK with ⟨%K, #HI⟩
  ihave Htk := (deal_tokens (F := F)) $$ Htok
  iapply (bigSep_beside (R := records P K) (Φ := linear) (Ψ := G' P) fun c _ => by
    unfold G'
    iintro ⟨#HR, HL⟩
    iexists K
    isplitr; · iexact HR
    iexact HL)
  isplitr
  · unfold records; isplitl; · iexact HI
    iexact HR
  · unfold linear
    rw [bigSep_sep' Finset.univ (fun c : Dev nD => bigSep Finset.univ fun k : CK => (atPos ER (kcell (c, k)) 0 ∅ 0 : sProp 𝕄))]
    isplitl [Hat]; · iexact Hat
    iexact Htk

/-- All devices' semaphores at zero and what they were dealt become, at once, what each of them starts from. -/
theorem glob : (bigSep Finset.univ fun c => iprop(Pipeline.ownSems0 (Ix := Unit) (Name := ℕ) (U := UU) (Lvl := ℕ) (Val := Elt F) (τ := τ) osem c
      ∗ unscopedSems0 c ∗ G P c) : sProp 𝕄)
    ⊢ |={Set.univ}=> bigSep Finset.univ (G' P) :=
  ((bigSep_mono fun c _ => core_alloc P c).trans (bigSep_fupd _ _)).trans (BI.fupd_mono (regroup P))

/-! ## The credit -/

theorem bar_inj {a b : Dev nD} (h : barCell a = barCell b) : a = b := congrArg (fun g : GSem nD τ sig => g.1.1) h
theorem recv_inj {i j : ℕ} (hi : i < 8) (hj : j < 8) {a b : Dev nD} (h : recvCell i a = recvCell j b) : i = j ∧ a = b := by
  refine ⟨?_, congrArg (fun g : GSem nD τ sig => g.1.1) h⟩
  have h1 : recvS i = recvS j := SemLoc.dma.inj (congrArg Prod.snd h)
  have h2 := side_recv i hi
  rw [h1, side_recv j hj] at h2
  exact (Fin.mk.inj (congrArg Prod.snd (Option.some.inj h2))).symm
theorem recv_ne_bar (i : ℕ) (a b : Dev nD) : recvCell i a ≠ barCell b := fun h => nomatch (congrArg Prod.snd h)

/-- What all devices together owe device `c`'s barrier with their payments `j`. -/
theorem due_bar (c : Dev nD) (j : ℕ) : (∑ d : Dev nD, if barCell c = dueCell d j then dueAmt j else 0) = if j < 4 then 1 else 0 := by
  by_cases hj : j < 4
  · unfold dueCell dueAmt; simp only [if_pos hj]
    rw [Finset.sum_eq_single (hail j c) (fun d _ hd => if_neg fun h => hd (by rw [bar_inj h]; exact (flip_flip _ _).symm))
      (fun h => absurd (Finset.mem_univ _) h), if_pos (by rw [show hail j (hail j c) = c from flip_flip _ _])]
  · unfold dueCell; simp only [if_neg hj]
    exact Finset.sum_eq_zero fun d _ => if_neg (recv_ne_bar _ _ _).symm

/-- What all devices together owe the arrival of device `c`'s transfer `i` with their payments `j`. -/
theorem due_recv (c : Dev nD) (i : ℕ) (hi : i < 8) (j : ℕ) (hj : j < 12) :
    (∑ d : Dev nD, if recvCell i c = dueCell d j then dueAmt j else 0) = if 4 + i = j then N else 0 := by
  by_cases h4 : j < 4
  · unfold dueCell; simp only [if_pos h4]; rw [if_neg (by omega)]
    exact Finset.sum_eq_zero fun d _ => if_neg (recv_ne_bar _ _ _)
  unfold dueCell dueAmt; simp only [if_neg h4]
  by_cases hij : 4 + i = j
  · rw [if_pos hij, show j - 4 = i by omega]
    rw [Finset.sum_eq_single (mate i c) (fun d _ hd => if_neg fun h => hd (by rw [(recv_inj hi hi h).2]; exact (flip_flip _ _).symm))
      (fun h => absurd (Finset.mem_univ _) h), if_pos (by rw [show mate i (mate i c) = c from flip_flip _ _])]
  · rw [if_neg hij]
    exact Finset.sum_eq_zero fun d _ => if_neg fun h => hij (by have := (recv_inj hi (by omega) h).1; omega)

theorem owed_sum (g : GSem nD τ sig) :
    launchCredit (Pipeline.owing (debt 0)) 0 g () = ∑ j ∈ Finset.Ico 0 12, ∑ d : Dev nD, if g = dueCell d j then dueAmt j else 0 := by
  rw [Pipeline.launchCredit_owing, Finset.sum_congr rfl fun d _ => debt_apply 0 d g, Finset.sum_comm]

theorem launch_bar (c : Dev nD) :
    tallyOn (barCell c) (launchCredit (Pipeline.owing (debt 0)) 0 (barCell c)) = (tallyAt (barCell c) () 4 : CellTallies nD τ sig Unit) := by
  unfold tallyAt; refine congrArg _ (Finsupp.ext fun u => ?_); cases u
  rw [owed_sum, Finsupp.single_eq_same, Finset.sum_congr rfl fun j _ => due_bar c j]
  decide

theorem launch_recv (c : Dev nD) (i : ℕ) (hi : i < 8) :
    tallyOn (recvCell i c) (launchCredit (Pipeline.owing (debt 0)) 0 (recvCell i c)) = (tallyAt (recvCell i c) () N : CellTallies nD τ sig Unit) := by
  unfold tallyAt; refine congrArg _ (Finsupp.ext fun u => ?_); cases u
  rw [owed_sum, Finsupp.single_eq_same, Finset.sum_congr rfl fun j hj => due_recv c i hi j (Finset.mem_Ico.mp hj).2, Finset.sum_ite_eq,
    if_pos (Finset.mem_Ico.mpr ⟨by omega, by omega⟩)]

theorem recvLoc_inj : Function.Injective (fun i : Fin 8 => (SemLoc.dma (recvS i.val) : SemLoc sig)) := by
  intro i j h
  have h1 := side_recv i.val i.isLt
  rw [SemLoc.dma.inj h, side_recv j.val j.isLt] at h1
  exact (congrArg Prod.snd (Option.some.inj h1)).symm

/-- The launch credit of device `c` holds its barrier's four signals and its eight arrivals. -/
theorem creds (c : Dev nD) :
    (Pipeline.launchCred (debt 0) c : sProp 𝕄) ⊢ iprop(cred (tallyAt (barCell c) () 4) ∗ bigSep Finset.univ fun i : Fin 8 => cred (tallyAt (recvCell i.val c) () N)) := by
  unfold Pipeline.launchCred
  rw [bigSep_univ_at _ (SemLoc.reg barS), launch_bar]
  refine sep_mono_right ?_
  rw [← bigSep_congr fun (i : Fin 8) _ => congrArg cred (launch_recv c i.val i.isLt),
    show (bigSep Finset.univ fun i : Fin 8 => (cred (tallyOn (recvCell i.val c) (launchCredit (Pipeline.owing (debt 0)) 0 (recvCell i.val c))) : sProp 𝕄))
      = _ from (bigSep_map (s := Finset.univ) ⟨_, recvLoc_inj⟩ (Φ := fun sm : SemLoc sig =>
      (cred (tallyOn ((c.tc : Thread nD τ), sm) (launchCredit (Pipeline.owing (debt 0)) 0 ((c.tc : Thread nD τ), sm))) : sProp 𝕄))).symm]
  refine bigSep_subset fun sm hsm => ?_
  obtain ⟨i, _, rfl⟩ := Finset.mem_map.mp hsm
  exact Finset.mem_erase.mpr ⟨nofun, Finset.mem_univ _⟩

/-- A device's places, tokens and credit are its rights in the exchange. -/
theorem rights_intro (c : Dev nD) :
    iprop(linear c ∗ cred (tallyAt (barCell c) () 4) ∗ bigSep Finset.univ fun i : Fin 8 => cred (tallyAt (recvCell i.val c) () N)) ⊢ (rights c : sProp 𝕄) := by
  unfold linear rights tick
  rw [bigSep_cells, bigSep_sides, bigSep_sep', bigSep_sep', bigSep_sep', bigSep_sep']
  iintro ⟨⟨⟨Hb, Hs, Hr⟩, Ht, Hts, Htr⟩, Hcb, Hcr⟩
  isplitl [Hb]; · iexact Hb
  isplitl [Hcb]; · iexact Hcb
  isplitl [Ht]; · iexact Ht
  isplitl [Hs]; · iexact Hs
  isplitl [Hr]; · iexact Hr
  isplitl [Hts]; · iexact Hts
  isplitl [Htr]; · iexact Htr
  iexact Hcr

end Cert.Butterfly
-- ==== Proof.Launch.lean ====
/-
# The launch and the run

The exchange's ghost state is dealt, the pipeline stages each device's rows, routes and weights, the body runs on every device, and
the output block is written back. What every device ends with is `final (own m)`, where `own m c` is the block device `c` computes by
itself from its arguments in the memory `m`.
-/
module

public import proofs.«01_k».proof.Proof.Deal
public import Idealize.ShloMosaic.Lib.Pipeline.ValueKit.Geometry
public import Idealize.ShloMosaic.Lib.Pipeline.CollectiveSegs

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The rows, the routes and the weights as staged on device `c`. -/
def xIn (c : Dev nD) : Vec F S256x128 .f32 := (win0_0.blk (0 : Fin 1)).view.read (Elt F) (m ((c.tc : Thread nD τ).loc main_arg0))
def rIn (c : Dev nD) : Vec F S256x1 .i32 := (win0_1.blk (0 : Fin 1)).view.read (Elt F) (m ((c.tc : Thread nD τ).loc main_arg2))
def wIn (c : Dev nD) : Vec F S2x128x256 .f32 := (win0_2.blk (0 : Fin 1)).view.read (Elt F) (m ((c.tc : Thread nD τ).loc main_arg3))

/-- The block device `c` computes by itself. -/
def own (c : Dev nD) : Vec F S256x256 .f32 := part (xIn m c) (rIn m c) (wIn m c) c

/-- What device `c` holds of the exchange before the body. -/
def start (c : Dev nD) : sProp 𝕄 :=
  iprop(G' (own m) c ∗ levAts L lv ∗ cred (tallyAt (barCell c) () 4) ∗ bigSep Finset.univ fun i : Fin 8 => cred (tallyAt (recvCell i.val c) () N))

/-- The two receive buffers, at some contents. -/
def bufs (c : Dev nD) : sProp 𝕄 := iprop(held c (recM 0) ∗ held c (recM 1))

/-- All of the exchange's semaphores of device `c` back at zero. -/
def zeros (c : Dev nD) : sProp 𝕄 := iprop(semVal (barCell c) 0 ∗ bigSep Finset.univ fun i : Fin 8 => closed i.val c)

def dats (_ : Fin 1) (c : Dev nD) : Dat τ (Elt F) Unit ℕ UU ℕ cfg0 c where
  A w := m ((cfg0.win w).arr.view.loc (c.tc : Thread nD τ))
  after w _ := match w with
    | ⟨0, _⟩ => xIn m c
    | ⟨1, _⟩ => rIn m c
    | ⟨2, _⟩ => wIn m c
    | ⟨3, _⟩ => final (own m) c
  Φ t := match t with
    | ⟨0, _⟩ => iprop(start m c ∗ bufs c)
    | ⟨_ + 1, _⟩ => iprop(bufs c ∗ zeros c)
  q _ := fullShare
  owed t := match t with
    | ⟨0, _⟩ => debt 0 c
    | ⟨_ + 1, _⟩ => 0

/-! ## The body -/

theorem fetch_in (w : Fin cfg0.W) (h : w ≠ 3) (t : Fin cfg0.N) : (cfg0.win w).fetch t = true := by
  rw [show t = t0_0 from fin_N0 t]; revert w; decide

set_option maxRecDepth 8000 in
theorem before_x (c : Dev nD) (d) : (dats m 0 c).before (0 : Fin 4) t0_0 d = xIn m c := by
  unfold Dat.before; rw [if_pos (fetch_in 0 (by decide) t0_0)]; rfl
set_option maxRecDepth 8000 in
theorem before_r (c : Dev nD) (d) : (dats m 0 c).before (1 : Fin 4) t0_0 d = rIn m c := by
  unfold Dat.before; rw [if_pos (fetch_in 1 (by decide) t0_0)]; rfl
set_option maxRecDepth 8000 in
theorem before_w (c : Dev nD) (d) : (dats m 0 c).before (2 : Fin 4) t0_0 d = wIn m c := by
  unfold Dat.before; rw [if_pos (fetch_in 2 (by decide) t0_0)]; rfl

/-- A staging buffer at contents equal to `X`. -/
def stgEq (c : Dev nD) (b : Ref sig .tc) (X : Buf (Elt F) ((c.tc : Thread nD τ).loc b)) : sProp 𝕄 := iprop(∃ f, ⌜f = X⌝ ∗ stg c b f)

def bodyPre (c : Dev nD) : sProp 𝕄 :=
  iprop((start m c ∗ bufs c) ∗ (dats m 0 c).owesAt () t0_0.castSucc
    ∗ (∃ d, stgEq c cc0_stg0_0 ((dats m 0 c).before (0 : Fin 4) t0_0 d))
    ∗ (∃ d, stgEq c cc0_stg1_0 ((dats m 0 c).before (1 : Fin 4) t0_0 d))
    ∗ (∃ d, stgEq c cc0_stg2_0 ((dats m 0 c).before (2 : Fin 4) t0_0 d))
    ∗ (∃ d, stgEq c cc0_stg3_0 ((dats m 0 c).before (3 : Fin 4) t0_0 d)))

def bodyPost (c : Dev nD) : sProp 𝕄 :=
  iprop((bufs c ∗ zeros c) ∗ (dats m 0 c).owesAt () t0_0.succ
    ∗ stgEq c cc0_stg0_0 (xIn m c) ∗ stgEq c cc0_stg1_0 (rIn m c) ∗ stgEq c cc0_stg2_0 (wIn m c) ∗ stgEq c cc0_stg3_0 (final (own m) c))

set_option maxRecDepth 8000 in
set_option maxHeartbeats 1000000 in
/-- The kernel on device `c` meets the pipeline's obligation at its one point. -/
theorem body_obligation (c : Dev nD) : BodyObligation (dats m 0 c) (defs₀ (F := F)) 𝒱₀ () Set.univ := fun t => by
  rw [show t = t0_0 from fin_N0 t]
  rw [show ∀ Φ : Fin cfg0.W → sProp 𝕄, bigSep Finset.univ Φ = _ from fun Φ => bigSep_W0 Φ,
    show ∀ Φ : Fin cfg0.W → sProp 𝕄, bigSep Finset.univ Φ = _ from fun Φ => bigSep_W0 Φ]
  simp only [owns_whole_eq]
  show bodyPre m c ⊢ runs c (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            cc0_scratch2 cc0_scratch3 cc0_scratch4 cc0_scratch5) (fun _ => bodyPost m c)
  unfold bodyPre start bufs G' stgEq
  simp only [before_x, before_r, before_w]
  iintro ⟨⟨⟨⟨%K, #HR, HG⟩, #HL, Hcb, Hcr⟩, HB⟩, Ho, ⟨%d0, %f0, %h0, Hx⟩, ⟨%d1, %f1, %h1, Hr⟩, ⟨%d2, %f2, %h2, Hw⟩, ⟨%d3, %f3, -, Hy⟩⟩
  subst h0 h1 h2
  ihave Hrt := (rights_intro (F := F) c) $$ [HG Hcb Hcr]
  · isplitl [HG]; · iexact HG
    isplitl [Hcb]; · iexact Hcb
    iexact Hcr
  unfold Dat.owesAt Pipeline.owesWithin
  icases Ho with ⟨%W, -, HO⟩
  rw [show (dats m 0 c).owed t0_0.castSucc = debt 0 c from rfl]
  ihave HO := (owing_intro 0 c W) $$ HO
  iapply (body_run (own m) K c (xIn m c) (rIn m c) (wIn m c) f3 rfl (fun _ => bodyPost m c)) $$ [HO Hrt HB Hx Hr Hw Hy]
  · isplitr; · iexact HR
    isplitr; · iexact HL
    isplitl [HO]; · iexact HO
    isplitl [Hrt]; · iexact Hrt
    isplitl [HB]; · iexact HB
    isplitl [Hx]; · iexact Hx
    isplitl [Hr]; · iexact Hr
    isplitl [Hw]; · iexact Hw
    iexact Hy
  iintro ⟨HO, HB, Hz, Hx, Hr, Hw, Hy⟩
  unfold bodyPost bufs zeros stgEq Dat.owesAt Pipeline.owesWithin
  rw [show (dats m 0 c).owed t0_0.succ = 0 from rfl]
  isplitl [HB Hz]
  · isplitl [HB]; · iexact HB
    iexact Hz
  isplitl [HO]
  · unfold owing
    rw [debt_done]
    icases HO with ⟨%W', HO⟩
    iexists W'
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hw]
  · iexists _; isplitr; · (ipureintro; rfl)
    iexact Hw
  iexists _; isplitr; · (ipureintro; rfl)
  iexact Hy

/-! ## The launch's side conditions -/

theorem ownSemFacts : Pipeline.OwnSemFacts cfg0.spec osem := by decide

theorem share_eq (c : Dev nD) (w : Fin cfg0.W) : (dats m 0 c).share w = fullShare := by unfold Dat.share; split <;> rfl

def u₀ : UU := (initOf (Pipeline.cells cfgs cellOf_inj) (Pipeline.launchToks cfgs cellOf_inj), initOf allCells allToks)

/-- A receive buffer held is the buffer whole at some contents. -/
theorem bufs_eq (c : Dev nD) : (bufs c : sProp 𝕄) = Pipeline.scopedRest cfg0.spec c := by
  rw [show (Pipeline.scopedRest cfg0.spec c : sProp 𝕄) = _ from scopedRest0_eq c]
  unfold bufs held recM
  simp only [owns_whole]
  rfl

theorem zeros_intro (c : Dev nD) : (zeros c : sProp 𝕄) ⊢ iprop(unscopedSems0 c ∗ Pipeline.ownSems0 osem c) := by
  unfold zeros closed Pipeline.ownSems0
  rw [unscopedSems0_eq, bigSep_sides, bigSep_sep']

/-- What the kernel neither stages nor writes: the array of the weights of the router, at its entry contents. -/
abbrev rest (c : Dev nD) : sProp 𝕄 := Pipeline.unscopedRestP Pipeline.Prefetch.none cfg0.spec c (fun b => m ((c.tc : Thread nD τ).loc b))

theorem start_intro (c : Dev nD) :
    iprop(rest m c ∗ levAts L lv ∗ Pipeline.launchCred (debt 0) c ∗ prngReg c (ρ c) ∗ G' (own m) c)
      ⊢ |={Set.univ}=> iprop(start m c ∗ rest m c) := by
  iintro ⟨Hrest, HL, Hcr, -, HG⟩
  ihave Hc := (creds (F := F) c) $$ Hcr
  icases Hc with ⟨Hcb, Hcr⟩
  imodintro
  unfold start
  isplitr [Hrest]
  · isplitl [HG]; · iexact HG
    isplitl [HL]; · iexact HL
    isplitl [Hcb]; · iexact Hcb
    iexact Hcr
  · iexact Hrest

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ bufs c) from rfl, bufs_eq]
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(bufs c ∗ zeros c) from rfl, bufs_eq]
  iintro ⟨Hr, Hz⟩
  ihave Hz := (zeros_intro (F := F) c) $$ Hz
  icases Hz with ⟨Hu, Ho⟩
  isplitl [Hu]; · iexact Hu
  isplitl [Ho]; · iexact Ho
  iexact Hr

theorem stage_low (w : Fin cfg0.W) (s : Fin (cfg0.win w).nbuf) : lvAt (.dma ((cfg0.win w).sem s)) = 0 := by revert w; decide

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low c _ (stage_low w s) 0
    · have h := mayWait_low (F := F) c (.dma ((cfg0.win w).sem s)) (stage_low w s) 12
      rw [debt_done] at h; exact h

/-! ## The run -/

/-- What is read off device `c`'s final memory beside the windows' arrays. -/
def readOff (c : Dev nD) (s : MemSt nD τ sig (Elt F)) : Prop :=
  s.mem ((c.tc : Thread nD τ).loc main_arg1) = m ((c.tc : Thread nD τ).loc main_arg1)
    ∧ ∀ sm : SemLoc sig, sm.isScoped .tc = false → s.sem ((c.tc : Thread nD τ), sm) = 0

theorem read_off (c : Dev nD) (s' : Phys nD τ sig (Elt F)) :
    iprop(unscopedSems0 c ∗ rest m c ∗ SI s') ⊢ (|={Set.univ}=> iprop(⌜readOff m c s'.mem⌝ ∗ SI s') : sProp 𝕄) := by
  iintro ⟨Hu, Hr, HSI⟩
  imod (Pipeline.unscopedSems0_read (X := unscopedSems0 c) (c := c) fupd_intro s') $$ [Hu HSI] with ⟨%hz, HSI⟩
  · isplitl [Hu] <;> iassumption
  ihave Hr := (Entails.of_eq ((Pipeline.unscopedRestP_none cfg0.spec c (fun b => m ((c.tc : Thread nD τ).loc b))).trans (unscopedRest0_eq c _))) $$ Hr
  icombine HSI Hr gives %h
  imodintro
  isplitr
  · ipureintro; exact ⟨funext fun i => h i (Finset.mem_univ i), hz⟩
  · iexact HSI

def Ended (r : PUnit × MemSt nD τ sig (Elt F)) : Prop :=
  (∀ c : Dev nD, (∀ w : Fin cfg0.W, r.2.mem ((cfg0.win w).arr.view.loc (c.tc : Thread nD τ)) = (dats m 0 c).arrAt w cfg0.N)
    ∧ r.2.mem ((c.tc : Thread nD τ).loc main_arg1) = m ((c.tc : Thread nD τ).loc main_arg1))
  ∧ r.2.sem = fun _ => 0

set_option maxRecDepth 8000 in
/-- From any memory with all semaphores at zero, every fair run of the sixteen devices ends, with every window's array at what the
    write-backs leave, the remaining argument as it was and every semaphore at zero. -/
theorem run_arrays : θ_run defs (onTc (τ := τ) (main (F := F))) ⟨m, fun _ => 0, ρ⟩ (Ended m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := debt 0) (howed₀ := fun _ => rfl) (howedN := fun _ => rfl)
    (L := L) (lv := lv) (hL := L_of_ne) (hwaits := waits m)
    (G := G (own m)) (G' := G' (own m)) (u₀ := u₀)
    (hu₀ := by
      unfold u₀
      iintro Hu
      ihave H := (ownU_pair _ _) $$ Hu
      icases H with ⟨HP, HX⟩
      imod (fund (own m)) $$ HX with HG
      imodintro
      isplitl [HP] <;> iassumption)
    (hglob := glob (own m))
    (hA := fun _ _ => rfl) (hpf := fun _ k => k.elim0)
    (X := start m) (Y := fun c => unscopedSems0 c) (Z := rest m)
    (hX := start_intro m ρ) (hin := enter m) (hout := leave m)
    (QY := readOff m) (hY := read_off m)
    (hQ := fun _ h hs => ⟨fun c => ⟨fun w => (h c).1 w, (h c).2.2.1⟩, sem_eq_zero hs fun c => (h c).2.2.2⟩)

/-- An input's array ends as it began. -/
theorem arr_in (c : Dev nD) (w : Fin cfg0.W) (h : w ≠ 3) : (dats m 0 c).arrAt w cfg0.N = m ((cfg0.win w).arr.view.loc (c.tc : Thread nD τ)) :=
  (dats m 0 c).arrAt_in w (by revert w; decide) _

set_option maxRecDepth 8000 in
/-- The output's array ends at what the body left in its staging buffer. -/
theorem arr_out (c : Dev nD) : (dats m 0 c).arrAt (3 : Fin 4) cfg0.N = final (own m) c := by
  funext j
  exact (dats m 0 c).arrAt_emb_eq_after_last (3 : Fin 4) t0_0 (by decide +kernel) j

/-- The run as the claims read it: each device's result is `final (own m)`, every argument is unchanged, every semaphore is at zero. -/
theorem run_main : θ_run defs (onTc (τ := τ) (main (F := F))) ⟨m, fun _ => 0, ρ⟩ (fun r =>
    (∀ c : Dev nD, r.2.mem ((c.tc : Thread nD τ).loc main_v1) = final (own m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun _ h => ⟨fun c => ⟨((h.1 c).1 3).trans (arr_out m c), ((h.1 c).1 0).trans (arr_in m c 0 (by decide)), (h.1 c).2,
    ((h.1 c).1 1).trans (arr_in m c 1 (by decide)), ((h.1 c).1 2).trans (arr_in m c 2 (by decide))⟩, h.2⟩) (run_arrays m ρ)

end Cert.Butterfly
-- ==== Proof.Partial.lean ====
/-
# The block one device computes

Over the extended reals, entry `(i, j)` of a device's own block is the sum, over its two experts, of the product of row `i` with the
expert's column `j` when the row is routed to that expert, and zero otherwise.
-/
module

public import proofs.«01_k».proof.Proof.Launch
public import Idealize.ShloMosaic.PureOps.Ideal.Laws
public import Idealize.ShloMosaic.Lib.MatmulPlain
public import Idealize.ShloMosaic.Lib.ValueIdx
public import Idealize.ShloMosaic.Lib.Pipeline.Value

@[expose] public section

noncomputable section

namespace Cert.Butterfly

open Cert.KernelIdeal Cert.KernelIdeal.Gen
open Idealize.ShloMosaic Idealize.ShloMosaic.TcCoe Idealize.ShloMosaic.ValueIdx

/-- Row `i` of the activations against column `j` of matrix `e` in a stack of `k` of them. -/
def rowCol {k : ℕ} (x : Vec Ideal S256x128 .f32) (w : (⟨3, ![k, 128, 256]⟩ : Shape).Idx → EReal) (e : Fin k) (i j : Fin 256) : EReal :=
  ∑ d : Fin 128, (x (ix2 i d) : EReal) * w (ix3 e d j)

/-- The comparison of two words, made a number, is 1 when they are equal and 0 otherwise. -/
theorem gate_eq (a b : BitVec 32) :
    (FloatOps.sitofp .f32 ((IntOp.cmpi .eq a b).setWidth 32) : Ideal .f32) = if a = b then (1 : EReal) else (0 : EReal) := by
  by_cases h : a = b
  · rw [if_pos h, show IntOp.cmpi .eq a b = 1#1 by rw [h]; simp [IntOp.cmpi]]
    show (((((1#1 : BitVec 1).setWidth 32).toInt : ℝ) : EReal)) = 1
    rw [show ((1#1 : BitVec 1).setWidth 32).toInt = 1 by decide]; simp
  · rw [if_neg h, show IntOp.cmpi .eq a b = 0#1 by
      show BitVec.ofBool (a == b) = 0#1
      rw [beq_eq_false_iff_ne.mpr h]; rfl]
    show (((((0#1 : BitVec 1).setWidth 32).toInt : ℝ) : EReal)) = 0
    rw [show ((0#1 : BitVec 1).setWidth 32).toInt = 0 by decide]; simp

/-- One expert's product: the rows whose word is `k`, the others set to zero, times a matrix. -/
theorem gated_apply (x : Vec Ideal S256x128 .f32) (r : IVec S256x1 32) (k : BitVec 32) (s : Vec Ideal S1x128x256 .f32) (i j : Fin 256) :
    (FloatOps.matmul (φ₁ := .f32) (φ₂ := .f32) dot_S256x128_S128x256_S256x256_1_0_0_1_n_n none
      (mulf (shapeCast S256x128 x shapeCasts_S256x128_S256x128)
        (broadcastTo S256x128 (sitofp .f32 (extui 32 (cmpi .eq r (broadcast S256x1 k)) natLt_1_32) : FVec Ideal S256x1 .f32)
          broadcasts_S256x1_S256x128))
      (shapeCast S128x256 s shapeCasts_S1x128x256_S128x256) (constant S256x256 .f32 0x00000000#32) (ix2 i j) : EReal)
      = if r (ix2 i (0 : Fin 1)) = k then rowCol x s 0 i j else 0 := by
  refine (Ideal.matmul_plain_apply (M := 256) (K := 128) (N := 256) none _ _ _ i j).trans ?_
  have hz : (constant S256x256 .f32 0x00000000#32 : FVec Ideal S256x256 .f32) (ix2 i j) = (0 : EReal) := Ideal.ofBits_zero_f32
  rw [hz, zero_add]
  have hx : ∀ d : Fin 128, (mulf (shapeCast S256x128 x shapeCasts_S256x128_S256x128)
        (broadcastTo S256x128 (sitofp .f32 (extui 32 (cmpi .eq r (broadcast S256x1 k)) natLt_1_32) : FVec Ideal S256x1 .f32)
          broadcasts_S256x1_S256x128)) (ix2 i d) = (x (ix2 i d) : EReal) * (if r (ix2 i (0 : Fin 1)) = k then (1 : EReal) else 0) := by
    intro d
    rw [← gate_eq]
    refine congrArg₂ (· * · : EReal → EReal → EReal) (shapeCast_apply x _ (ix2 i d) (ix2 i d) rfl) ?_
    exact broadcastTo_apply (sitofp .f32 (extui 32 (cmpi .eq r (broadcast S256x1 k)) natLt_1_32) : FVec Ideal S256x1 .f32) broadcasts_S256x1_S256x128 (ix2 i d) (ix2 i (0 : Fin 1)) (fun a => by
      match a with
      | ⟨0, _⟩ => rfl
      | ⟨1, _⟩ => rfl)
  have hs : ∀ d : Fin 128, shapeCast S128x256 s shapeCasts_S1x128x256_S128x256 (ix2 d j) = s (ix3 (0 : Fin 1) d j) := by
    intro d
    refine shapeCast_apply s _ (ix2 d j) (ix3 (0 : Fin 1) d j) ?_
    rw [Shape.rowMajor_val_three, Shape.rowMajor_val_two]
    show (0 * 128 + d.val) * 256 + j.val = d.val * 256 + j.val
    omega
  by_cases h : r (ix2 i (0 : Fin 1)) = k
  · rw [if_pos h]
    refine Finset.sum_congr rfl fun d _ => ?_
    rw [hx, hs, if_pos h, mul_one]
  · rw [if_neg h]
    refine Finset.sum_eq_zero fun d _ => ?_
    rw [hx, if_neg h, mul_zero, zero_mul]

/-- The words of the two experts of device `c`. -/
theorem expert_word0 : ∀ c : Dev nD, Scalar.addi (Scalar.muli (Scalar.remsi (Scalar.divsi (Dev.word c) 1#32) 16#32) 2#32) 0#32
    = BitVec.ofNat 32 (2 * c.val) := by decide +kernel
theorem expert_word1 : ∀ c : Dev nD, Scalar.addi (Scalar.muli (Scalar.remsi (Scalar.divsi (Dev.word c) 1#32) 16#32) 2#32) 1#32
    = BitVec.ofNat 32 (2 * c.val + 1) := by decide +kernel

theorem slab0_apply (w : Vec Ideal S2x128x256 .f32) (d : Fin 128) (j : Fin 256) : slab0 w (ix3 (0 : Fin 1) d j) = w (ix3 (0 : Fin 2) d j) := by
  refine congrArg w (funext fun a => Fin.ext ?_)
  match a with
  | ⟨0, _⟩ => rfl
  | ⟨1, _⟩ => exact (show 0 + 1 * d.val = d.val by omega)
  | ⟨2, _⟩ => exact (show 0 + 1 * j.val = j.val by omega)
theorem slab1_apply (w : Vec Ideal S2x128x256 .f32) (d : Fin 128) (j : Fin 256) : slab1 w (ix3 (0 : Fin 1) d j) = w (ix3 (1 : Fin 2) d j) := by
  refine congrArg w (funext fun a => Fin.ext ?_)
  match a with
  | ⟨0, _⟩ => rfl
  | ⟨1, _⟩ => exact (show 0 + 1 * d.val = d.val by omega)
  | ⟨2, _⟩ => exact (show 0 + 1 * j.val = j.val by omega)

/-- A device's own block, entry by entry. -/
theorem part_apply (x : Vec Ideal S256x128 .f32) (r : Vec Ideal S256x1 .i32) (w : Vec Ideal S2x128x256 .f32) (c : Dev nD) (i j : Fin 256) :
    (part x r w c (ix2 i j) : EReal)
      = ∑ e : Fin 2, if (r (ix2 i (0 : Fin 1)) : BitVec 32) = BitVec.ofNat 32 (2 * c.val + e.val) then rowCol x w e i j else 0 := by
  have hr : k0_pay2 (F := Ideal) r = r := funext fun y => shapeCast_apply r _ y y rfl
  have hz : (k0_pay3 (F := Ideal)) (ix2 i j) = (0 : EReal) := Ideal.ofBits_zero_f32
  have h0 := gated_apply x (k0_pay2 (F := Ideal) r) (BitVec.ofNat 32 (2 * c.val)) (slab0 w) i j
  have h1 := gated_apply x (k0_pay2 (F := Ideal) r) (BitVec.ofNat 32 (2 * c.val + 1)) (slab1 w) i j
  rw [← expert_word0 c] at h0
  rw [← expert_word1 c] at h1
  rw [Fin.sum_univ_two]
  refine Eq.trans (congrArg₂ (· + · : EReal → EReal → EReal) (congrArg₂ (· + · : EReal → EReal → EReal) hz h0) h1) ?_
  rw [zero_add, hr, expert_word0, expert_word1]
  have e0 : rowCol x (slab0 w) 0 i j = rowCol x w 0 i j := Finset.sum_congr rfl fun d _ => by rw [slab0_apply]
  have e1 : rowCol x (slab1 w) 0 i j = rowCol x w 1 i j := Finset.sum_congr rfl fun d _ => by rw [slab1_apply]
  rw [e0, e1]
  rfl

variable (m : (ℓ : Loc nD τ sig) → Buf (Elt Ideal) ℓ)

/-- What is staged is the whole of each argument. -/
theorem xIn_eq (c : Dev nD) : xIn m c = m ((c.tc : Thread nD τ).loc main_arg0) := by
  funext y
  refine congrArg (m ((c.tc : Thread nD τ).loc main_arg0)) (funext fun a => Fin.ext ?_)
  match a with
  | ⟨0, _⟩ => exact (show 0 * 256 + 1 * (y (0 : Fin 2)).val = (y (0 : Fin 2)).val by omega)
  | ⟨1, _⟩ => exact (show 0 * 128 + 1 * (y (1 : Fin 2)).val = (y (1 : Fin 2)).val by omega)
theorem rIn_eq (c : Dev nD) : rIn m c = m ((c.tc : Thread nD τ).loc main_arg2) := by
  funext y
  refine congrArg (m ((c.tc : Thread nD τ).loc main_arg2)) (funext fun a => Fin.ext ?_)
  match a with
  | ⟨0, _⟩ => exact (show 0 * 256 + 1 * (y (0 : Fin 2)).val = (y (0 : Fin 2)).val by omega)
  | ⟨1, _⟩ => exact (show 0 * 1 + 1 * (y (1 : Fin 2)).val = (y (1 : Fin 2)).val by omega)
theorem wIn_eq (c : Dev nD) : wIn m c = m ((c.tc : Thread nD τ).loc main_arg3) := by
  funext y
  refine congrArg (m ((c.tc : Thread nD τ).loc main_arg3)) (funext fun a => Fin.ext ?_)
  match a with
  | ⟨0, _⟩ => exact (show 0 * 2 + 1 * (y (0 : Fin 3)).val = (y (0 : Fin 3)).val by omega)
  | ⟨1, _⟩ => exact (show 0 * 128 + 1 * (y (1 : Fin 3)).val = (y (1 : Fin 3)).val by omega)
  | ⟨2, _⟩ => exact (show 0 * 256 + 1 * (y (2 : Fin 3)).val = (y (2 : Fin 3)).val by omega)

end Cert.Butterfly

end
-- ==== Proof.RefValue.lean ====
/-
# The reference, entry by entry

Entry `(i, j)` of the reference is the product of row `i` with column `j` of the expert the row is routed to, written here as a sum over
the thirty-two experts; a route outside `0 … 31` gives a row of zeros.
-/
module

public import proofs.«01_k».proof.Proof.Gen.ReferenceIdeal.Run
public import Idealize.ShloMosaic.PureOps.Ideal.Laws
public import Idealize.ShloMosaic.Lib.ValueIdx
public import Idealize.ShloMosaic.Lib.Pipeline.Value
public import Idealize.ShloMosaic.Lib.ReduceAll
public import Idealize.ShloMosaic.Lib.Affine

@[expose] public section

noncomputable section

namespace Cert.ReferenceIdeal.Value

open Cert.ReferenceIdeal Cert.ReferenceIdeal.Gen
open Idealize.ShloMosaic Idealize.ShloMosaic.TcCoe Idealize.ShloMosaic.ValueIdx

/-- The routes as a column, after the program's reshapes. -/
def col (r : IVec S256x1 32) : IVec S256x1 32 := broadcastInDim S256x1 ![0] bcast_S256_S256x1_0 (shapeCast S256 r shapeCasts_S256x1_S256)

theorem col_apply (r : IVec S256x1 32) (i : Fin 256) : col r (ix2 i (0 : Fin 1)) = r (ix2 i (0 : Fin 1)) := by
  unfold col
  refine (broadcastInDim_apply (s := S256) (t := S256x1) ![0] bcast_S256_S256x1_0 _ (ix2 i (0 : Fin 1)) (ix1 i) (fun a => by
    match a with
    | ⟨0, _⟩ => rfl)).trans ?_
  refine shapeCast_apply r _ (ix1 i) (ix2 i (0 : Fin 1)) ?_
  rw [Shape.rowMajor_val_two, Shape.rowMajor_val_one]
  show i.val * 1 + 0 = i.val
  omega

/-- Whether each route lies in `0 … 31`. -/
def inside (r : IVec S256x1 32) : IVec S256x1 1 :=
  andi (cmpi .sge (col r) (broadcastInDim S256x1 ![] bcast_S_S256x1 (constantI S_ 32 0#32)))
    (cmpi .sle (col r) (broadcastInDim S256x1 ![0, 1] bcast_S1x1_S256x1_0_1 (broadcastInDim S1x1 ![1] bcast_S1_S1x1_1 (constantI S1 32 31#32))))

theorem inside_eq_one (r : IVec S256x1 32) (i : Fin 256) :
    inside r (ix2 i (0 : Fin 1)) = 1#1 ↔ 0 ≤ (r (ix2 i (0 : Fin 1))).toInt ∧ (r (ix2 i (0 : Fin 1))).toInt ≤ 31 := by
  show IntOp.andi (IntOp.cmpi .sge (col r (ix2 i (0 : Fin 1))) 0#32) (IntOp.cmpi .sle (col r (ix2 i (0 : Fin 1))) 31#32) = 1#1 ↔ _
  rw [IntOp.andi_eq_one, IntOp.cmpi_sge, IntOp.cmpi_sle, col_apply]
  rfl

/-- The bit for row `i`. -/
def rowBit (r : IVec S256x1 32) : IVec S256 1 :=
  Host.reduce IntOp.andi (inside r) (constantI S_ 1 1#1) reducesTo_S256x1_S256_d1 h_S_

theorem drop_row (y : S256x1.Idx) : ((reducesTo_S256x1_S256_d1).drop y (0 : Fin 1)).val = (y (0 : Fin 2)).val := rfl

theorem rowBit_eq_one (r : IVec S256x1 32) (i : Fin 256) : rowBit r (ix1 i) = 1#1 ↔ inside r (ix2 i (0 : Fin 1)) = 1#1 := by
  unfold rowBit
  constructor
  · intro h
    refine Host.reduce_andi_eq_one _ _ _ _ _ h (ix2 i (0 : Fin 1)) (funext fun a => Fin.ext ?_)
    match a with
    | ⟨0, _⟩ => exact drop_row _
  · intro h
    rw [Host.reduce_eq_foldl]
    refine IntOp.foldl_andi_one _ _ _ rfl fun y hy => ?_
    have hd := (List.mem_filter.1 hy).2
    have hd : (reducesTo_S256x1_S256_d1).drop y = ix1 i := by simpa using hd
    have h0 : (y (0 : Fin 2)).val = i.val := by rw [← drop_row, hd]
    have h1 : (y (1 : Fin 2)).val = 0 := Nat.lt_one_iff.1 (y (1 : Fin 2)).isLt
    have e : y = ix2 i (0 : Fin 1) := by
      funext a
      refine Fin.ext ?_
      match a with
      | ⟨0, _⟩ => exact h0
      | ⟨1, _⟩ => exact h1
    rw [e]; exact h

/-- The matrix a row's word names, held to `0 … 31`. -/
theorem gather_start (k : IVec S256x1 32) (i : Fin 256) (d : Fin 128) (j : Fin 256) :
    gather_S32x128x256_S256x1_S256x128x256_12_0_n_n_0_1_1128256.start (ix3 i d j) k (0 : Fin 3)
      = min (k (ix2 i (0 : Fin 1))).toInt.toNat 31 := by
  set D := gather_S32x128x256_S256x1_S256x128x256_12_0_n_n_0_1_1128256
  unfold GatherDims.start
  rw [dif_pos (show (0 : Fin 3) ∈ D.startIndexMap from List.mem_singleton.mpr rfl)]
  have hsi : D.siIdx (ix3 i d j) ⟨List.idxOf (0 : Fin 3) D.startIndexMap, List.idxOf_lt_length_iff.2 (List.mem_singleton.mpr rfl)⟩
      = ix2 i (0 : Fin 1) := by
    funext b
    refine Fin.ext ?_
    match b with
    | ⟨0, _⟩ => rfl
    | ⟨1, _⟩ => rfl
  rw [hsi]
  rfl

/-- The expert matrices gathered row by row, at an index: the matrix the row's word names, held to `0 … 31`. -/
theorem gather_apply (w : Vec Ideal S32x128x256 .f32) (k : IVec S256x1 32) (i : Fin 256) (d : Fin 128) (j : Fin 256) :
    Host.gather gather_S32x128x256_S256x1_S256x128x256_12_0_n_n_0_1_1128256 w k (ix3 i d j)
      = w (ix3 (⟨min (k (ix2 i (0 : Fin 1))).toInt.toNat 31, by omega⟩ : Fin 32) d j) := by
  unfold Host.gather
  refine congrArg w (funext fun a => Fin.ext ?_)
  set D := gather_S32x128x256_S256x1_S256x128x256_12_0_n_n_0_1_1128256
  show D.start (ix3 i d j) k a + D.batchCoord (ix3 i d j) a + D.offCoord (ix3 i d j) a = _
  rw [GatherDims.batchCoord_eq_zero _ _ _ (List.not_mem_nil), Nat.add_zero]
  match a with
  | ⟨0, _⟩ =>
    rw [GatherDims.offCoord_eq_zero _ _ _ (fun h => ((GatherDims.mem_sKept _ _).mp h).1 (List.mem_singleton.mpr rfl)), Nat.add_zero]
    exact gather_start k i d j
  | ⟨1, _⟩ => exact (show 0 + d.val = d.val by omega)
  | ⟨2, _⟩ => exact (show 0 + j.val = j.val by omega)

/-- The matrices each row is multiplied by: gathered, with zeros for a route outside `0 … 31`. -/
def picked (r : IVec S256x1 32) (w : Vec Ideal S32x128x256 .f32) : Vec Ideal S256x128x256 .f32 :=
  select (broadcastInDim S256x128x256 ![0] bcast_S256_S256x128x256_0 (rowBit r))
    (Host.gather gather_S32x128x256_S256x1_S256x128x256_12_0_n_n_0_1_1128256 w (col r))
    (broadcastInDim S256x128x256 ![] bcast_S_S256x128x256 (constant S_ .f32 0x00000000#32 : FVec Ideal S_ .f32))

/-- A word between 0 and 31 is the word of one number below 32. -/
theorem word_eq (b : BitVec 32) (e : Fin 32) : b = BitVec.ofNat 32 e.val ↔ b.toInt = (e.val : ℤ) := by
  have he : (BitVec.ofNat 32 e.val).toInt = (e.val : ℤ) := by revert e; decide
  rw [← he]
  exact ⟨fun h => by rw [h], fun h => BitVec.eq_of_toInt_eq h⟩

theorem picked_apply (r : IVec S256x1 32) (w : Vec Ideal S32x128x256 .f32) (i : Fin 256) (d : Fin 128) (j : Fin 256) :
    (picked r w (ix3 i d j) : EReal)
      = ∑ e : Fin 32, if r (ix2 i (0 : Fin 1)) = BitVec.ofNat 32 e.val then (w (ix3 e d j) : EReal) else 0 := by
  unfold picked
  rw [select_apply, broadcastInDim_apply (s := S256) (t := S256x128x256) ![0] bcast_S256_S256x128x256_0 (rowBit r) (ix3 i d j) (ix1 i) (fun a => by
    match a with
    | ⟨0, _⟩ => rfl), gather_apply]
  have hz : (broadcastInDim S256x128x256 ![] bcast_S_S256x128x256 (constant S_ .f32 0x00000000#32 : FVec Ideal S_ .f32)) (ix3 i d j) = (0 : EReal) :=
    Ideal.ofBits_zero_f32
  by_cases h : rowBit r (ix1 i) = 1#1
  · obtain ⟨hl, hu⟩ := (inside_eq_one r i).1 ((rowBit_eq_one r i).1 h)
    rw [h, select_one]
    set e0 : Fin 32 := ⟨min (col r (ix2 i (0 : Fin 1))).toInt.toNat 31, by omega⟩ with he0
    have hv : (e0.val : ℤ) = (r (ix2 i (0 : Fin 1))).toInt := by
      rw [he0]
      show ((min (col r (ix2 i (0 : Fin 1))).toInt.toNat 31 : ℕ) : ℤ) = _
      rw [col_apply]; omega
    rw [Finset.sum_eq_single e0]
    · rw [if_pos ((word_eq _ _).2 hv.symm)]
    · intro e _ hne
      refine if_neg fun hw => hne (Fin.ext ?_)
      have := (word_eq _ _).1 hw
      omega
    · exact fun hn => absurd (Finset.mem_univ _) hn
  · rw [eq_zero_of_ne_one h, select_zero, hz]
    refine (Finset.sum_eq_zero fun e _ => if_neg fun hw => h ((rowBit_eq_one r i).2 ((inside_eq_one r i).2 ?_))).symm
    have := (word_eq _ _).1 hw
    have := e.isLt
    omega

/-- The reference as a function of its arguments. -/
def refOut (x : Vec Ideal S256x128 .f32) (r : IVec S256x1 32) (w : Vec Ideal S32x128x256 .f32) : Vec Ideal S256x256 .f32 :=
  Host.dotGeneral (F := Ideal) (φ₁ := .f32) (φ₂ := .f32) dot_S256x128_S256x128x256_S256x256_1_1_n_2_0_0 none x (picked r w)

theorem refOut_apply (x : Vec Ideal S256x128 .f32) (r : IVec S256x1 32) (w : Vec Ideal S32x128x256 .f32) (i j : Fin 256) :
    (refOut x r w (ix2 i j) : EReal) = ∑ d : Fin 128, (x (ix2 i d) : EReal) * picked r w (ix3 i d j) := by
  show FloatOps.dotGeneral (F := Ideal) (φ₁ := .f32) (φ₂ := .f32) _ none _ x (picked r w) (ix2 i j) = _
  rw [Ideal.dotGeneral_apply,
    ← Equiv.sum_comp (contrEquiv1 dot_S256x128_S256x128x256_S256x256_1_1_n_2_0_0 128 rfl rfl).symm]
  refine Finset.sum_congr rfl fun d _ => ?_
  have hd := contrEquiv1_symm_val dot_S256x128_S256x128x256_S256x256_1_1_n_2_0_0 128 rfl rfl d
  have hl : dot_S256x128_S256x128x256_S256x256_1_1_n_2_0_0.lhsIdx (ix2 i j) ((contrEquiv1 _ 128 rfl rfl).symm d) = ix2 i d := by
    funext a
    refine Fin.ext ?_
    match a with
    | ⟨0, _⟩ => rfl
    | ⟨1, _⟩ => exact hd
  have hr : dot_S256x128_S256x128x256_S256x256_1_1_n_2_0_0.rhsIdx (ix2 i j) ((contrEquiv1 _ 128 rfl rfl).symm d) = ix3 i d j := by
    funext a
    refine Fin.ext ?_
    match a with
    | ⟨0, _⟩ => rfl
    | ⟨1, _⟩ => exact hd
    | ⟨2, _⟩ => rfl
  rw [hl, hr]

end Cert.ReferenceIdeal.Value

end
-- ==== Proof.Equation.lean ====
/-
# The exchange computes the reference

When every device holds the same rows and routes and its own two of the thirty-two experts, the sum of the devices' blocks is the
reference's output: expert `e` is on device `e / 2`, and a row is routed to at most one expert.
-/
module

public import proofs.«01_k».proof.Proof.Total
public import proofs.«01_k».proof.Proof.Partial
public import proofs.«01_k».proof.Proof.RefValue
public import Idealize.ShloMosaic.Lib.Layout

@[expose] public section

noncomputable section

namespace Cert.Butterfly

open Cert.KernelIdeal Cert.KernelIdeal.Gen
open Idealize.ShloMosaic Idealize.ShloMosaic.TcCoe Idealize.ShloMosaic.ValueIdx

/-- A sum over the experts of what only the routed one contributes: that contribution, -/
theorem sum_routed (b : BitVec 32) (e0 : Fin 32) (h : b = BitVec.ofNat 32 e0.val) (f : Fin 32 → EReal) :
    (∑ e : Fin 32, if b = BitVec.ofNat 32 e.val then f e else 0) = f e0 := by
  rw [Finset.sum_eq_single e0, if_pos h]
  · intro e _ hne
    refine if_neg fun he => hne (Fin.ext ?_)
    have h1 := (Cert.ReferenceIdeal.Value.word_eq b e).1 he
    have h2 := (Cert.ReferenceIdeal.Value.word_eq b e0).1 h
    omega
  · exact fun hn => absurd (Finset.mem_univ _) hn

/-- or zero when no expert is named. -/
theorem sum_unrouted (b : BitVec 32) (h : ∀ e : Fin 32, b ≠ BitVec.ofNat 32 e.val) (f : Fin 32 → EReal) :
    (∑ e : Fin 32, if b = BitVec.ofNat 32 e.val then f e else 0) = 0 :=
  Finset.sum_eq_zero fun e _ => if_neg (h e)

/-- The reference as a sum over the experts. -/
theorem reference_apply (x : Vec Ideal S256x128 .f32) (r : IVec S256x1 32) (w : (⟨3, ![32, 128, 256]⟩ : Shape).Idx → EReal) (i j : Fin 256) :
    (Cert.ReferenceIdeal.Value.refOut x r w (ix2 i j) : EReal)
      = ∑ e : Fin 32, if r (ix2 i (0 : Fin 1)) = BitVec.ofNat 32 e.val then rowCol x w e i j else 0 := by
  rw [Cert.ReferenceIdeal.Value.refOut_apply]
  by_cases h : ∃ e0 : Fin 32, r (ix2 i (0 : Fin 1)) = BitVec.ofNat 32 e0.val
  · obtain ⟨e0, h⟩ := h
    rw [sum_routed _ e0 h]
    refine Finset.sum_congr rfl fun d _ => ?_
    rw [Cert.ReferenceIdeal.Value.picked_apply, sum_routed _ e0 h fun e => w (ix3 e d j)]
  · have h := not_exists.1 h
    rw [sum_unrouted _ h]
    refine Finset.sum_eq_zero fun d _ => ?_
    rw [Cert.ReferenceIdeal.Value.picked_apply, sum_unrouted _ h fun e => w (ix3 e d j), mul_zero]

/-- Expert `e` of device `c` among all experts. -/
def expertOf (c : Dev nD) (e : Fin 2) : Fin 32 := ⟨2 * c.val + e.val, by have := c.isLt; change _ < 16 at this; omega⟩

/-- A device's share of the experts is its two of the thirty-two. -/
theorem share_apply (w : (⟨3, ![32, 128, 256]⟩ : Shape).Idx → EReal) (c : Dev nD) (e : Fin 2) (d : Fin 128) (j : Fin 256) :
    Layout.block ⟨3, ![2, 128, 256]⟩ ⟨3, ![32, 128, 256]⟩ 0 16 c w (by decide) (ix3 e d j) = w (ix3 (expertOf c e) d j) := by
  rw [Layout.block_apply]
  refine congrArg w (funext fun a => Fin.ext ?_)
  rw [Layout.Tiles.idx_val]
  match a with
  | ⟨0, _⟩ => exact (show c.val * 2 + e.val = 2 * c.val + e.val by omega)
  | ⟨1, _⟩ => rfl
  | ⟨2, _⟩ => rfl

/-- A sum over all experts is a sum over devices and their two experts. -/
theorem sum_experts (f : Fin 32 → EReal) : (∑ e : Fin 32, f e) = ∑ c : Dev nD, ∑ e : Fin 2, f (expertOf c e) := by
  have h := (finProdFinEquiv (m := 16) (n := 2)).sum_comp f
  rw [Fintype.sum_prod_type] at h
  refine h.symm.trans (Finset.sum_congr rfl fun c _ => Finset.sum_congr rfl fun e _ => congrArg f (Fin.ext ?_))
  show e.val + 2 * c.val = 2 * c.val + e.val
  omega

/-- What every device ends with is the reference's output on the whole arrays. -/
theorem final_eq_reference (m : (ℓ : Loc nD τ sig) → Buf (Elt Ideal) ℓ)
    (x : Vec Ideal S256x128 .f32) (r : IVec S256x1 32) (w : (⟨3, ![32, 128, 256]⟩ : Shape).Idx → EReal)
    (hx : ∀ c : Dev nD, m ((c.tc : Thread nD τ).loc main_arg0) = x) (hr : ∀ c : Dev nD, m ((c.tc : Thread nD τ).loc main_arg2) = r)
    (hw : ∀ c : Dev nD, m ((c.tc : Thread nD τ).loc main_arg3) = Layout.block ⟨3, ![2, 128, 256]⟩ ⟨3, ![32, 128, 256]⟩ 0 16 c w (by decide))
    (c : Dev nD) : final (own m) c = Cert.ReferenceIdeal.Value.refOut x r w := by
  rw [final_eq_sum]
  funext y
  obtain ⟨i, j, rfl⟩ : ∃ i j : Fin 256, y = ix2 i j := ⟨y 0, y 1, eq_ix2 y⟩
  refine Eq.trans ?_ (reference_apply x r w i j).symm
  rw [sum_experts]
  refine Finset.sum_congr rfl fun d _ => ?_
  unfold own
  rw [part_apply, xIn_eq, rIn_eq, wIn_eq, hx, hr, hw]
  refine Finset.sum_congr rfl fun e _ => ?_
  have hc : rowCol x (Layout.block ⟨3, ![2, 128, 256]⟩ ⟨3, ![32, 128, 256]⟩ 0 16 d w (by decide)) e i j = rowCol x w (expertOf d e) i j :=
    Finset.sum_congr rfl fun q _ => by rw [share_apply]
  rw [hc]
  rfl

end Cert.Butterfly

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem

/-- The kernel at any precision: every execution ends, with the arguments unchanged and every counter at zero. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2, h.2⟩) (Cert.Butterfly.run_main m ρ)

/-- The two printed programs have the same body tables. -/
theorem bodies_eq : Cert.Kernel.defs₀ (F := Bits) = Cert.KernelIdeal.defs₀ (F := Bits) := by
  unfold Cert.Kernel.defs₀ Cert.KernelIdeal.defs₀
  refine congrArg (Defs.onTc (Λ := Cert.KernelIdeal.Λ₀)) (funext fun l => funext fun a => ?_)
  match l, a with
  | 0, (_, _) => rfl
theorem defs_eq : Cert.Kernel.defs (F := Bits) = Cert.KernelIdeal.defs (F := Bits) :=
  congrArg (Pipeline.defs Cert.KernelIdeal.pcfgs) bodies_eq

/-- At the kernel's own precision, -/
theorem frame_kernel : Cert.quiescent_Kernel := fun m ρ _ => by
  rw [defs_eq]
  exact frame (F := Bits) m ρ

/-- and over the extended reals. -/
theorem frame_ideal : Cert.quiescent_KernelIdeal := fun m ρ _ => frame (F := Ideal) m ρ

/-- The same of the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On the same rows and routes, each device holding its two experts, every device ends with the reference's output. -/
theorem algebraic : Cert.algebraic_KernelIdeal_ReferenceIdeal := by
  intro m ρ m' ρ' _ h
  refine ⟨Cert.ReferenceIdeal.Value.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · exact (θ_run Cert.KernelIdeal.defs _ _).mono (fun _ hr c =>
      ⟨(hr.1 c).1.trans (Cert.Butterfly.final_eq_reference m _ _ _ (fun c => (h c).1) (fun c => (h c).2.2.1) (fun c => (h c).2.2.2) c), (hr.1 c).2⟩)
      (Cert.Butterfly.run_main (F := Ideal) m ρ)
  · exact (θ_run Cert.ReferenceIdeal.defs _ _).mono (fun _ hr => hr 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, algebraic⟩

end Cert.Proof

end
